-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8192x768 : Shape := ⟨2, ![8192, 768]⟩
abbrev S8192x154 : Shape := ⟨2, ![8192, 154]⟩
abbrev S2304x768 : Shape := ⟨2, ![2304, 768]⟩
abbrev S2304 : Shape := ⟨1, ![2304]⟩
abbrev S154x768 : Shape := ⟨2, ![154, 768]⟩
abbrev S154 : Shape := ⟨1, ![154]⟩
abbrev S_ : Shape := ⟨0, ![]⟩

class Facts : Prop where
  bcast_S_S8192x154 : S_.BroadcastsInDim S8192x154 (![] : Fin 0 → Fin S8192x154.rank)
  bcast_S_S154x768 : S_.BroadcastsInDim S154x768 (![] : Fin 0 → Fin S154x768.rank)
  bcast_S_S154 : S_.BroadcastsInDim S154 (![] : Fin 0 → Fin S154.rank)

variable [Facts]

def fn {F : FTy → Type} [FloatOps F] (main_arg0 : FVec F S8192x768 .f32) (main_arg1 : IVec S8192x154 32) (main_arg2 : FVec F S2304x768 .f32) (main_arg3 : FVec F S2304x768 .f32) (main_arg4 : FVec F S2304 .f32) (main_arg5 : FVec F S2304 .f32) (main_arg6 : FVec F S154x768 .f32) (main_arg7 : FVec F S154 .f32) (main_arg8 : FVec F S154x768 .f32) : IVec S8192x154 1 × IVec S154x768 1 × IVec S154 1 :=
  let main_c : IVec S_ 32 := constantI S_ 32 0#32
  let main_v0 : IVec S8192x154 32 := broadcastInDim S8192x154 ![] bcast_S_S8192x154 main_c
  let main_v1 : IVec S8192x154 1 := cmpi .eq main_arg1 main_v0
  let main_c_0 : IVec S_ 32 := constantI S_ 32 1#32
  let main_v2 : IVec S8192x154 32 := broadcastInDim S8192x154 ![] bcast_S_S8192x154 main_c_0
  let main_v3 : IVec S8192x154 1 := cmpi .eq main_arg1 main_v2
  let main_v4 : IVec S8192x154 1 := ori main_v1 main_v3
  let main_v5 : FVec F S154x768 .f32 := Host.absf main_arg6
  let main_cst : FVec F S_ .f32 := constant S_ .f32 0x7F800000#32
  let main_v6 : FVec F S154x768 .f32 := broadcastInDim S154x768 ![] bcast_S_S154x768 main_cst
  let main_v7 : IVec S154x768 1 := cmpf .olt main_v5 main_v6
  let main_v8 : FVec F S154 .f32 := Host.absf main_arg7
  let main_cst_1 : FVec F S_ .f32 := constant S_ .f32 0x7F800000#32
  let main_v9 : FVec F S154 .f32 := broadcastInDim S154 ![] bcast_S_S154 main_cst_1
  let main_v10 : IVec S154 1 := cmpf .olt main_v8 main_v9
  (main_v4, main_v7, main_v10)
-- ==== Kernel.lean ====
abbrev S8192x768 : Shape := ⟨2, ![8192, 768]⟩
abbrev S8192x154 : Shape := ⟨2, ![8192, 154]⟩
abbrev S2304x768 : Shape := ⟨2, ![2304, 768]⟩
abbrev S2304 : Shape := ⟨1, ![2304]⟩
abbrev S154x768 : Shape := ⟨2, ![154, 768]⟩
abbrev S154 : Shape := ⟨1, ![154]⟩
abbrev S1x2304 : Shape := ⟨2, ![1, 2304]⟩
abbrev S1x154 : Shape := ⟨2, ![1, 154]⟩
abbrev S_ : Shape := ⟨0, ![]⟩
abbrev S8192x2 : Shape := ⟨2, ![8192, 2]⟩
abbrev S1024x768 : Shape := ⟨2, ![1024, 768]⟩
abbrev S1024x154 : Shape := ⟨2, ![1024, 154]⟩
abbrev S1024x2 : Shape := ⟨2, ![1024, 2]⟩
abbrev S1024x2304 : Shape := ⟨2, ![1024, 2304]⟩
abbrev S1x768 : Shape := ⟨2, ![1, 768]⟩
abbrev S1024 : Shape := ⟨1, ![1024]⟩
abbrev S1024x1 : Shape := ⟨2, ![1024, 1]⟩
abbrev S1x1x154 : Shape := ⟨3, ![1, 1, 154]⟩
abbrev S8192x2x1 : Shape := ⟨3, ![8192, 2, 1]⟩
abbrev S8192x2x154 : Shape := ⟨3, ![8192, 2, 154]⟩

abbrev nBuf : Space → Nat
  | .hbm => 23
  | .vmem => 13
  | .smem => 0
  | _ => 0

abbrev bufTy : (tb : Table) → Fin (tcTables nBuf tb) → BufTy
  | .hbm, ⟨0, _⟩ => ⟨S8192x768, .f32⟩
  | .hbm, ⟨1, _⟩ => ⟨S8192x154, .i32⟩
  | .hbm, ⟨2, _⟩ => ⟨S2304x768, .f32⟩
  | .hbm, ⟨3, _⟩ => ⟨S2304x768, .f32⟩
  | .hbm, ⟨4, _⟩ => ⟨S2304, .f32⟩
  | .hbm, ⟨5, _⟩ => ⟨S2304, .f32⟩
  | .hbm, ⟨6, _⟩ => ⟨S154x768, .f32⟩
  | .hbm, ⟨7, _⟩ => ⟨S154, .f32⟩
  | .hbm, ⟨8, _⟩ => ⟨S154x768, .f32⟩
  | .hbm, ⟨9, _⟩ => ⟨S1x2304, .f32⟩
  | .hbm, ⟨10, _⟩ => ⟨S1x2304, .f32⟩
  | .hbm, ⟨11, _⟩ => ⟨S1x154, .f32⟩
  | .hbm, ⟨12, _⟩ => ⟨S_, .i32⟩
  | .hbm, ⟨13, _⟩ => ⟨S8192x154, .i32⟩
  | .hbm, ⟨14, _⟩ => ⟨S8192x154, .i1⟩
  | .hbm, ⟨15, _⟩ => ⟨S8192x154, .i8⟩
  | .hbm, ⟨16, _⟩ => ⟨S8192x2, .i32⟩
  | .hbm, ⟨17, _⟩ => ⟨S1x1x154, .i32⟩
  | .hbm, ⟨18, _⟩ => ⟨S8192x2x1, .i32⟩
  | .hbm, ⟨19, _⟩ => ⟨S8192x2x154, .i32⟩
  | .hbm, ⟨20, _⟩ => ⟨S8192x2x154, .i32⟩
  | .hbm, ⟨21, _⟩ => ⟨S8192x2x154, .i1⟩
  | .hbm, ⟨22, _⟩ => ⟨S8192x2x154, .f32⟩
  | .local _ .vmem, ⟨0, _⟩ => ⟨S1024x768, .f32⟩
  | .local _ .vmem, ⟨1, _⟩ => ⟨S1024x768, .f32⟩
  | .local _ .vmem, ⟨2, _⟩ => ⟨S1024x154, .i8⟩
  | .local _ .vmem, ⟨3, _⟩ => ⟨S1024x154, .i8⟩
  | .local _ .vmem, ⟨4, _⟩ => ⟨S2304x768, .f32⟩
  | .local _ .vmem, ⟨5, _⟩ => ⟨S2304x768, .f32⟩
  | .local _ .vmem, ⟨6, _⟩ => ⟨S1x2304, .f32⟩
  | .local _ .vmem, ⟨7, _⟩ => ⟨S1x2304, .f32⟩
  | .local _ .vmem, ⟨8, _⟩ => ⟨S154x768, .f32⟩
  | .local _ .vmem, ⟨9, _⟩ => ⟨S1x154, .f32⟩
  | .local _ .vmem, ⟨10, _⟩ => ⟨S154x768, .f32⟩
  | .local _ .vmem, ⟨11, _⟩ => ⟨S1024x2, .i32⟩
  | .local _ .vmem, ⟨12, _⟩ => ⟨S1024x2, .i32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x154 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2304x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S154x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x154 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S154x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x2 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x768 : Shape := ⟨2, ![8192, 768]⟩
abbrev S8192x154 : Shape := ⟨2, ![8192, 154]⟩
abbrev S2304x768 : Shape := ⟨2, ![2304, 768]⟩
abbrev S2304 : Shape := ⟨1, ![2304]⟩
abbrev S154x768 : Shape := ⟨2, ![154, 768]⟩
abbrev S154 : Shape := ⟨1, ![154]⟩
abbrev S_ : Shape := ⟨0, ![]⟩
abbrev S768x2304 : Shape := ⟨2, ![768, 2304]⟩
abbrev S8192x2304 : Shape := ⟨2, ![8192, 2304]⟩
abbrev S1x2304 : Shape := ⟨2, ![1, 2304]⟩
abbrev S768x154 : Shape := ⟨2, ![768, 154]⟩
abbrev S1x154 : Shape := ⟨2, ![1, 154]⟩
abbrev S8192 : Shape := ⟨1, ![8192]⟩
abbrev S8192x1 : Shape := ⟨2, ![8192, 1]⟩
abbrev S1 : Shape := ⟨1, ![1]⟩
abbrev S8192x2 : Shape := ⟨2, ![8192, 2]⟩
abbrev S8192x1x154 : Shape := ⟨3, ![8192, 1, 154]⟩
abbrev S8192x2x154 : Shape := ⟨3, ![8192, 2, 154]⟩

abbrev nBuf : Space → Nat
  | .hbm => 272
  | .vmem => 0
  | .smem => 0
  | _ => 0

abbrev hbmTy0_0 (i : Nat) : BufTy := match i % 128 with
  | 0 => ⟨S8192x768, .f32⟩
  | 1 => ⟨S8192x154, .i32⟩
  | 2 => ⟨S2304x768, .f32⟩
  | 3 => ⟨S2304x768, .f32⟩
  | 4 => ⟨S2304, .f32⟩
  | 5 => ⟨S2304, .f32⟩
  | 6 => ⟨S154x768, .f32⟩
  | 7 => ⟨S154, .f32⟩
  | 8 => ⟨S154x768, .f32⟩
  | 9 => ⟨S_, .f32⟩
  | 10 => ⟨S8192x768, .f32⟩
  | 11 => ⟨S768x2304, .f32⟩
  | 12 => ⟨S8192x2304, .f32⟩
  | 13 => ⟨S1x2304, .f32⟩
  | 14 => ⟨S8192x2304, .f32⟩
  | 15 => ⟨S8192x2304, .f32⟩
  | 16 => ⟨S768x2304, .f32⟩
  | 17 => ⟨S8192x2304, .f32⟩
  | 18 => ⟨S1x2304, .f32⟩
  | 19 => ⟨S8192x2304, .f32⟩
  | 20 => ⟨S8192x2304, .f32⟩
  | 21 => ⟨S8192x768, .f32⟩
  | 22 => ⟨S8192x768, .f32⟩
  | 23 => ⟨S8192x768, .f32⟩
  | 24 => ⟨S8192x768, .f32⟩
  | 25 => ⟨S8192x768, .f32⟩
  | 26 => ⟨S8192x768, .f32⟩
  | 27 => ⟨S8192x768, .f32⟩
  | 28 => ⟨S8192x768, .f32⟩
  | 29 => ⟨S8192x768, .f32⟩
  | 30 => ⟨S_, .f32⟩
  | 31 => ⟨S8192x768, .f32⟩
  | 32 => ⟨S8192x768, .f32⟩
  | 33 => ⟨S_, .f32⟩
  | 34 => ⟨S8192x768, .f32⟩
  | 35 => ⟨S8192x768, .f32⟩
  | 36 => ⟨S8192x768, .f32⟩
  | 37 => ⟨S8192x768, .f32⟩
  | 38 => ⟨S8192x768, .f32⟩
  | 39 => ⟨S_, .f32⟩
  | 40 => ⟨S8192x768, .f32⟩
  | 41 => ⟨S8192x768, .f32⟩
  | 42 => ⟨S_, .f32⟩
  | 43 => ⟨S8192x768, .f32⟩
  | 44 => ⟨S8192x768, .f32⟩
  | 45 => ⟨S8192x768, .f32⟩
  | 46 => ⟨S8192x768, .f32⟩
  | 47 => ⟨S8192x768, .f32⟩
  | 48 => ⟨S_, .f32⟩
  | 49 => ⟨S8192x768, .f32⟩
  | 50 => ⟨S8192x768, .f32⟩
  | 51 => ⟨S8192x768, .f32⟩
  | 52 => ⟨S8192x768, .f32⟩
  | 53 => ⟨S8192x768, .f32⟩
  | 54 => ⟨S768x154, .f32⟩
  | 55 => ⟨S8192x154, .f32⟩
  | 56 => ⟨S1x154, .f32⟩
  | 57 => ⟨S8192x154, .f32⟩
  | 58 => ⟨S8192x154, .f32⟩
  | 59 => ⟨S_, .i32⟩
  | 60 => ⟨S8192, .i32⟩
  | 61 => ⟨S_, .i32⟩
  | 62 => ⟨S8192, .i32⟩
  | 63 => ⟨S8192, .i1⟩
  | 64 => ⟨S8192x1, .i32⟩
  | 65 => ⟨S8192, .i32⟩
  | 66 => ⟨S_, .i32⟩
  | 67 => ⟨S_, .i32⟩
  | 68 => ⟨S8192, .i32⟩
  | 69 => ⟨S8192, .i32⟩
  | 70 => ⟨S_, .i32⟩
  | 71 => ⟨S1, .i32⟩
  | 72 => ⟨S8192x154, .i32⟩
  | 73 => ⟨S_, .i32⟩
  | 74 => ⟨S8192x154, .i32⟩
  | 75 => ⟨S8192x154, .i1⟩
  | 76 => ⟨S_, .f32⟩
  | 77 => ⟨S_, .f32⟩
  | 78 => ⟨S8192x154, .f32⟩
  | 79 => ⟨S8192x154, .f32⟩
  | 80 => ⟨S_, .f32⟩
  | 81 => ⟨S8192, .f32⟩
  | 82 => ⟨S_, .f32⟩
  | 83 => ⟨S8192, .f32⟩
  | 84 => ⟨S8192, .f32⟩
  | 85 => ⟨S8192x1, .f32⟩
  | 86 => ⟨S8192x154, .f32⟩
  | 87 => ⟨S8192x154, .f32⟩
  | 88 => ⟨S8192x154, .f32⟩
  | 89 => ⟨S_, .f32⟩
  | 90 => ⟨S8192, .f32⟩
  | 91 => ⟨S8192x1, .f32⟩
  | 92 => ⟨S8192x154, .f32⟩
  | 93 => ⟨S8192x154, .f32⟩
  | 94 => ⟨S8192x154, .i32⟩
  | 95 => ⟨S_, .f32⟩
  | 96 => ⟨S_, .i32⟩
  | 97 => ⟨S8192, .f32⟩
  | 98 => ⟨S8192, .i32⟩
  | 99 => ⟨S8192x1, .i32⟩
  | 100 => ⟨S1x154, .i32⟩
  | 101 => ⟨S8192x154, .i32⟩
  | 102 => ⟨S8192x154, .i32⟩
  | 103 => ⟨S8192x154, .i1⟩
  | 104 => ⟨S8192x154, .f32⟩
  | 105 => ⟨S8192x154, .f32⟩
  | 106 => ⟨S8192x154, .f32⟩
  | 107 => ⟨S8192x154, .i32⟩
  | 108 => ⟨S_, .f32⟩
  | 109 => ⟨S_, .i32⟩
  | 110 => ⟨S8192, .f32⟩
  | 111 => ⟨S8192, .i32⟩
  | 112 => ⟨S8192, .i32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S8192x768, .f32⟩

abbrev hbmTy0_1 (i : Nat) : BufTy := match i % 128 with
  | 0 => ⟨S8192x1, .i32⟩
  | 1 => ⟨S8192x2, .i32⟩
  | 2 => ⟨S_, .i32⟩
  | 3 => ⟨S8192, .i32⟩
  | 4 => ⟨S8192x154, .i32⟩
  | 5 => ⟨S8192x154, .i32⟩
  | 6 => ⟨S_, .f32⟩
  | 7 => ⟨S_, .i32⟩
  | 8 => ⟨S8192, .f32⟩
  | 9 => ⟨S8192, .i32⟩
  | 10 => ⟨S8192x768, .f32⟩
  | 11 => ⟨S8192x768, .f32⟩
  | 12 => ⟨S768x2304, .f32⟩
  | 13 => ⟨S8192x2304, .f32⟩
  | 14 => ⟨S1x2304, .f32⟩
  | 15 => ⟨S8192x2304, .f32⟩
  | 16 => ⟨S8192x2304, .f32⟩
  | 17 => ⟨S768x2304, .f32⟩
  | 18 => ⟨S8192x2304, .f32⟩
  | 19 => ⟨S1x2304, .f32⟩
  | 20 => ⟨S8192x2304, .f32⟩
  | 21 => ⟨S8192x2304, .f32⟩
  | 22 => ⟨S8192x768, .f32⟩
  | 23 => ⟨S8192x768, .f32⟩
  | 24 => ⟨S8192x768, .f32⟩
  | 25 => ⟨S8192x768, .f32⟩
  | 26 => ⟨S8192x768, .f32⟩
  | 27 => ⟨S8192x768, .f32⟩
  | 28 => ⟨S8192x768, .f32⟩
  | 29 => ⟨S8192x768, .f32⟩
  | 30 => ⟨S8192x768, .f32⟩
  | 31 => ⟨S_, .f32⟩
  | 32 => ⟨S8192x768, .f32⟩
  | 33 => ⟨S8192x768, .f32⟩
  | 34 => ⟨S_, .f32⟩
  | 35 => ⟨S8192x768, .f32⟩
  | 36 => ⟨S8192x768, .f32⟩
  | 37 => ⟨S8192x768, .f32⟩
  | 38 => ⟨S8192x768, .f32⟩
  | 39 => ⟨S8192x768, .f32⟩
  | 40 => ⟨S_, .f32⟩
  | 41 => ⟨S8192x768, .f32⟩
  | 42 => ⟨S8192x768, .f32⟩
  | 43 => ⟨S_, .f32⟩
  | 44 => ⟨S8192x768, .f32⟩
  | 45 => ⟨S8192x768, .f32⟩
  | 46 => ⟨S8192x768, .f32⟩
  | 47 => ⟨S8192x768, .f32⟩
  | 48 => ⟨S8192x768, .f32⟩
  | 49 => ⟨S_, .f32⟩
  | 50 => ⟨S8192x768, .f32⟩
  | 51 => ⟨S8192x768, .f32⟩
  | 52 => ⟨S8192x768, .f32⟩
  | 53 => ⟨S8192x768, .f32⟩
  | 54 => ⟨S8192x768, .f32⟩
  | 55 => ⟨S768x154, .f32⟩
  | 56 => ⟨S8192x154, .f32⟩
  | 57 => ⟨S1x154, .f32⟩
  | 58 => ⟨S8192x154, .f32⟩
  | 59 => ⟨S8192x154, .f32⟩
  | 60 => ⟨S_, .i32⟩
  | 61 => ⟨S8192, .i32⟩
  | 62 => ⟨S8192, .i1⟩
  | 63 => ⟨S8192x1, .i1⟩
  | 64 => ⟨S_, .i32⟩
  | 65 => ⟨S_, .i32⟩
  | 66 => ⟨S8192x154, .i1⟩
  | 67 => ⟨S8192x154, .i32⟩
  | 68 => ⟨S8192x154, .i32⟩
  | 69 => ⟨S_, .i32⟩
  | 70 => ⟨S1, .i32⟩
  | 71 => ⟨S_, .i32⟩
  | 72 => ⟨S8192, .i32⟩
  | 73 => ⟨S8192x154, .i32⟩
  | 74 => ⟨S_, .i32⟩
  | 75 => ⟨S8192x154, .i32⟩
  | 76 => ⟨S8192x154, .i1⟩
  | 77 => ⟨S_, .f32⟩
  | 78 => ⟨S_, .f32⟩
  | 79 => ⟨S8192x154, .f32⟩
  | 80 => ⟨S8192x154, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1, .f32⟩
  | 87 => ⟨S8192x154, .f32⟩
  | 88 => ⟨S8192x154, .f32⟩
  | 89 => ⟨S8192x154, .f32⟩
  | 90 => ⟨S_, .f32⟩
  | 91 => ⟨S8192, .f32⟩
  | 92 => ⟨S8192x1, .f32⟩
  | 93 => ⟨S8192x154, .f32⟩
  | 94 => ⟨S8192x154, .f32⟩
  | 95 => ⟨S8192x154, .i32⟩
  | 96 => ⟨S_, .f32⟩
  | 97 => ⟨S_, .i32⟩
  | 98 => ⟨S8192, .f32⟩
  | 99 => ⟨S8192, .i32⟩
  | 100 => ⟨S8192x1, .i32⟩
  | 101 => ⟨S1x154, .i32⟩
  | 102 => ⟨S8192x154, .i32⟩
  | 103 => ⟨S8192x154, .i32⟩
  | 104 => ⟨S8192x154, .i1⟩
  | 105 => ⟨S8192x154, .f32⟩
  | 106 => ⟨S8192x154, .f32⟩
  | 107 => ⟨S8192x154, .f32⟩
  | 108 => ⟨S8192x154, .i32⟩
  | 109 => ⟨S_, .f32⟩
  | 110 => ⟨S_, .i32⟩
  | 111 => ⟨S8192, .f32⟩
  | 112 => ⟨S8192, .i32⟩
  | 113 => ⟨S8192, .i32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S8192x768, .f32⟩

abbrev hbmTy0_2 (i : Nat) : BufTy := match i % 128 with
  | 0 => ⟨S8192x1, .i32⟩
  | 1 => ⟨S8192x1, .i32⟩
  | 2 => ⟨S8192x2, .i32⟩
  | 3 => ⟨S_, .i32⟩
  | 4 => ⟨S8192, .i32⟩
  | 5 => ⟨S8192x154, .i32⟩
  | 6 => ⟨S8192x154, .i32⟩
  | 7 => ⟨S_, .f32⟩
  | 8 => ⟨S_, .i32⟩
  | 9 => ⟨S8192, .f32⟩
  | 10 => ⟨S8192, .i32⟩
  | 11 => ⟨S8192x768, .f32⟩
  | 12 => ⟨S8192x768, .f32⟩
  | 13 => ⟨S8192x1x154, .f32⟩
  | 14 => ⟨S8192x1x154, .f32⟩
  | 15 => ⟨S8192x2x154, .f32⟩
  | _ => ⟨S8192x768, .f32⟩

abbrev hbmTy (i : Nat) : BufTy := match i / 128 with
  | 0 => hbmTy0_0 i
  | 1 => hbmTy0_1 i
  | 2 => hbmTy0_2 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_6 : Ref sig .tc := ⟨.hbm, 66, rfl⟩
abbrev main_call0_v0 : Ref sig .tc := ⟨.hbm, 67, rfl⟩
abbrev main_call0_v1 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_call1_v0 : Ref sig .tc := ⟨.hbm, 77, rfl⟩
abbrev main_call1_v1 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_v0 : Ref sig .tc := ⟨.hbm, 94, rfl⟩
abbrev main_call2_cst : Ref sig .tc := ⟨.hbm, 95, rfl⟩
abbrev main_call2_c : Ref sig .tc := ⟨.hbm, 96, rfl⟩
abbrev main_call2_v1_0 : Ref sig .tc := ⟨.hbm, 97, rfl⟩
abbrev main_v66 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_call4_v0 : Ref sig .tc := ⟨.hbm, 107, rfl⟩
abbrev main_call4_cst : Ref sig .tc := ⟨.hbm, 108, rfl⟩
abbrev main_call4_c : Ref sig .tc := ⟨.hbm, 109, rfl⟩
abbrev main_call4_v1_0 : Ref sig .tc := ⟨.hbm, 110, rfl⟩
abbrev main_v70 : Ref sig .tc := ⟨.hbm, 111, rfl⟩
abbrev main_v71 : Ref sig .tc := ⟨.hbm, 112, rfl⟩
abbrev main_c_13 : Ref sig .tc := ⟨.hbm, 113, rfl⟩
abbrev main_v72 : Ref sig .tc := ⟨.hbm, 114, rfl⟩
abbrev main_v73 : Ref sig .tc := ⟨.hbm, 115, rfl⟩
abbrev main_c_14 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_15 : Ref sig .tc := ⟨.hbm, 120, rfl⟩
abbrev main_v77 : Ref sig .tc := ⟨.hbm, 121, rfl⟩
abbrev main_v78 : Ref sig .tc := ⟨.hbm, 122, rfl⟩
abbrev main_c_16 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_17 : Ref sig .tc := ⟨.hbm, 130, rfl⟩
abbrev main_v85 : Ref sig .tc := ⟨.hbm, 131, rfl⟩
abbrev main_v86 : Ref sig .tc := ⟨.hbm, 132, rfl⟩
abbrev main_call5_v0 : Ref sig .tc := ⟨.hbm, 133, rfl⟩
abbrev main_call5_cst : Ref sig .tc := ⟨.hbm, 134, rfl⟩
abbrev main_call5_c : Ref sig .tc := ⟨.hbm, 135, rfl⟩
abbrev main_call5_v1_0 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_18 : Ref sig .tc := ⟨.hbm, 159, rfl⟩
abbrev main_v109 : Ref sig .tc := ⟨.hbm, 160, rfl⟩
abbrev main_v110 : Ref sig .tc := ⟨.hbm, 161, rfl⟩
abbrev main_cst_19 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_20 : Ref sig .tc := ⟨.hbm, 168, rfl⟩
abbrev main_v116 : Ref sig .tc := ⟨.hbm, 169, rfl⟩
abbrev main_v117 : Ref sig .tc := ⟨.hbm, 170, rfl⟩
abbrev main_cst_21 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_22 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_c_23 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_c_24 : Ref sig .tc := ⟨.hbm, 192, rfl⟩
abbrev main_call6_v0 : Ref sig .tc := ⟨.hbm, 193, rfl⟩
abbrev main_call6_v1 : Ref sig .tc := ⟨.hbm, 194, rfl⟩
abbrev main_call6_v2 : Ref sig .tc := ⟨.hbm, 195, rfl⟩
abbrev main_v136 : Ref sig .tc := ⟨.hbm, 196, rfl⟩
abbrev main_c_25 : Ref sig .tc := ⟨.hbm, 197, rfl⟩
abbrev main_v137 : Ref sig .tc := ⟨.hbm, 198, rfl⟩
abbrev main_c_26 : Ref sig .tc := ⟨.hbm, 199, rfl⟩
abbrev main_v138 : Ref sig .tc := ⟨.hbm, 200, rfl⟩
abbrev main_v139 : Ref sig .tc := ⟨.hbm, 201, rfl⟩
abbrev main_c_27 : Ref sig .tc := ⟨.hbm, 202, rfl⟩
abbrev main_v140 : Ref sig .tc := ⟨.hbm, 203, rfl⟩
abbrev main_v141 : Ref sig .tc := ⟨.hbm, 204, rfl⟩
abbrev main_cst_28 : Ref sig .tc := ⟨.hbm, 205, rfl⟩
abbrev main_call7_v0 : Ref sig .tc := ⟨.hbm, 206, rfl⟩
abbrev main_call7_v1 : Ref sig .tc := ⟨.hbm, 207, rfl⟩
abbrev main_v142 : Ref sig .tc := ⟨.hbm, 208, rfl⟩
abbrev main_cst_29 : Ref sig .tc := ⟨.hbm, 209, rfl⟩
abbrev main_v143 : Ref sig .tc := ⟨.hbm, 210, rfl⟩
abbrev main_cst_30 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_31 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_call8_v0 : Ref sig .tc := ⟨.hbm, 223, rfl⟩
abbrev main_call8_cst : Ref sig .tc := ⟨.hbm, 224, rfl⟩
abbrev main_call8_c : Ref sig .tc := ⟨.hbm, 225, rfl⟩
abbrev main_call8_v1_0 : Ref sig .tc := ⟨.hbm, 226, rfl⟩
abbrev main_v154 : Ref sig .tc := ⟨.hbm, 227, rfl⟩
abbrev main_call9_v0 : Ref sig .tc := ⟨.hbm, 228, rfl⟩
abbrev main_call9_v1 : Ref sig .tc := ⟨.hbm, 229, rfl⟩
abbrev main_call9_v2 : Ref sig .tc := ⟨.hbm, 230, rfl⟩
abbrev main_call9_v3 : Ref sig .tc := ⟨.hbm, 231, rfl⟩
abbrev main_call9_v4 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_call10_v0 : Ref sig .tc := ⟨.hbm, 236, rfl⟩
abbrev main_call10_cst : Ref sig .tc := ⟨.hbm, 237, rfl⟩
abbrev main_call10_c : Ref sig .tc := ⟨.hbm, 238, rfl⟩
abbrev main_call10_v1_0 : Ref sig .tc := ⟨.hbm, 239, rfl⟩
abbrev main_v158 : Ref sig .tc := ⟨.hbm, 240, rfl⟩
abbrev main_v159 : Ref sig .tc := ⟨.hbm, 241, rfl⟩
abbrev main_c_32 : Ref sig .tc := ⟨.hbm, 242, rfl⟩
abbrev main_v160 : Ref sig .tc := ⟨.hbm, 243, rfl⟩
abbrev main_v161 : Ref sig .tc := ⟨.hbm, 244, rfl⟩
abbrev main_c_33 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_c_34 : Ref sig .tc := ⟨.hbm, 249, rfl⟩
abbrev main_v165 : Ref sig .tc := ⟨.hbm, 250, rfl⟩
abbrev main_v166 : Ref sig .tc := ⟨.hbm, 251, rfl⟩
abbrev main_c_35 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_c_36 : Ref sig .tc := ⟨.hbm, 259, rfl⟩
abbrev main_v173 : Ref sig .tc := ⟨.hbm, 260, rfl⟩
abbrev main_v174 : Ref sig .tc := ⟨.hbm, 261, rfl⟩
abbrev main_call11_v0 : Ref sig .tc := ⟨.hbm, 262, rfl⟩
abbrev main_call11_cst : Ref sig .tc := ⟨.hbm, 263, rfl⟩
abbrev main_call11_c : Ref sig .tc := ⟨.hbm, 264, rfl⟩
abbrev main_call11_v1_0 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩

abbrev nD : Nat := 1
abbrev τ : Topo := Topo.v7x

variable {F : FTy → Type} [FloatOps F]
-- ==== Proof.RefLine.lean ====
/-
  The reference's straight line of host operations, cut where a stage of reference.py ends: the recurrent
  cell, the head, the mask, the softmax, the pick and the straight-through probabilities, twice, then the stack.
-/
module

public import proofs.«01_k».proof.ReferenceIdeal
public import proofs.«01_k».proof.Proof.Gen.ReferenceIdeal
public import Idealize.ShloMosaic.Lib.StableHlo.RunHlo

@[expose] public section

noncomputable section

namespace Cert.ReferenceIdeal.Line

open Idealize.ShloMosaic Idealize.ShloMosaic.TcCoe Idealize.SL.Sem Cert.ReferenceIdeal Cert.ReferenceIdeal.Gen

variable {F : FTy → Type} [FloatOps F]

/-- The operations of stage `Cell1`, from its first to the one that writes `main_v38`. -/
def opsCell1 : List (HloOp τ sig (Elt F)) :=
  [StableHlo.nullary main_cst (constant S_ .f32 0x00000000#32),
   StableHlo.unary main_cst main_v0 (broadcastInDim S8192x768 ![] bcast_S_S8192x768 : (⟨S_, .f32⟩ : BufTy).Contents (Elt F) → (⟨S8192x768, .f32⟩ : BufTy).Contents (Elt F)),
   StableHlo.unary main_arg2 main_v1 ((transpose S768x2304 [1, 0] · transposes_S2304x768_S768x2304_1_0) : (⟨S2304x768, .f32⟩ : BufTy).Contents (Elt F) → (⟨S768x2304, .f32⟩ : BufTy).Contents (Elt F)),
   StableHlo.binary main_arg0 main_v1 main_v2 ((fun l r => Host.dotGeneral dot_S8192x768_S768x2304_S8192x2304_1_0_0_1_n_n none l r) : (⟨S8192x768, .f32⟩ : BufTy).Contents (Elt F) → (⟨S768x2304, .f32⟩ : BufTy).Contents (Elt F) → (⟨S8192x2304, .f32⟩ : BufTy).Contents (Elt F)),
   StableHlo.unary main_arg4 main_v3 (broadcastInDim S1x2304 ![1] bcast_S2304_S1x2304_1 : (⟨S2304, .f32⟩ : BufTy).Contents (Elt F) → (⟨S1x2304, .f32⟩ : BufTy).Contents (Elt F)),
   StableHlo.unary main_v3 main_v4 (broadcastInDim S8192x2304 ![0, 1] bcast_S1x2304_S8192x2304_0_1 : (⟨S1x2304, .f32⟩ : BufTy).Contents (Elt F) → (⟨S8192x2304, .f32⟩ : BufTy).Contents (Elt F)),
   StableHlo.binary main_v2 main_v4 main_v5 (addf : (⟨S8192x2304, .f32⟩ : BufTy).Contents (Elt F) → (⟨S8192x2304, .f32⟩ : BufTy).Contents (Elt F) → (⟨S8192x2304, .f32⟩ : BufTy).Contents (Elt F)),
   StableHlo.unary main_arg3 main_v6 ((transpose S768x2304 [1, 0] · transposes_S2304x768_S768x2304_1_0) : (⟨S2304x768, .f32⟩ : BufTy).Contents (Elt F) → (⟨S768x2304, .f32⟩ : BufTy).Contents (Elt F)),
   StableHlo.binary main_v0 main_v6 main_v7 ((fun l r => Host.dotGeneral dot_S8192x768_S768x2304_S8192x2304_1_0_0_1_n_n none l r) : (⟨S8192x768, .f32⟩ : BufTy).Contents (Elt F) → (⟨S768x2304, .f32⟩ : BufTy).Contents (Elt F) → (⟨S8192x2304, .f32⟩ : BufTy).Contents (Elt F)),
   StableHlo.unary main_arg5 main_v8 (broadcastInDim S1x2304 ![1] bcast_S2304_S1x2304_1 : (⟨S2304, .f32⟩ : BufTy).Contents (Elt F) → (⟨S1x2304, .f32⟩ : BufTy).Contents (Elt F)),
   StableHlo.unary main_v8 main_v9 (broadcastInDim S8192x2304 ![0, 1] bcast_S1x2304_S8192x2304_0_1 : (⟨S1x2304, .f32⟩ : BufTy).Contents (Elt F) → (⟨S8192x2304, .f32⟩ : BufTy).Contents (Elt F)),
   StableHlo.binary main_v7 main_v9 main_v10 (addf : (⟨S8192x2304, .f32⟩ : BufTy).Contents (Elt F) → (⟨S8192x2304, .f32⟩ : BufTy).Contents (Elt F) → (⟨S8192x2304, .f32⟩ : BufTy).Contents (Elt F)),
   StableHlo.unary main_v5 main_v11 ((extractStridedSlice S8192x768 ![0, 0] · slices_S8192x2304_S8192x768_0_0) : (⟨S8192x2304, .f32⟩ : BufTy).Contents (Elt F) → (⟨S8192x768, .f32⟩ : BufTy).Contents (Elt F)),
   StableHlo.unary main_v5 main_v12 ((extractStridedSlice S8192x768 ![0, 768] · slices_S8192x2304_S8192x768_0_768) : (⟨S8192x2304, .f32⟩ : BufTy).Contents (Elt F) → (⟨S8192x768, .f32⟩ : BufTy).Contents (Elt F)),
   StableHlo.unary main_v5 main_v13 ((extractStridedSlice S8192x768 ![0, 1536] · slices_S8192x2304_S8192x768_0_1536) : (⟨S8192x2304, .f32⟩ : BufTy).Contents (Elt F) → (⟨S8192x768, .f32⟩ : BufTy).Contents (Elt F)),
   StableHlo.unary main_v10 main_v14 ((extractStridedSlice S8192x768 ![0, 0] · slices_S8192x2304_S8192x768_0_0) : (⟨S8192x2304, .f32⟩ : BufTy).Contents (Elt F) → (⟨S8192x768, .f32⟩ : BufTy).Contents (Elt F)),
   StableHlo.unary main_v10 main_v15 ((extractStridedSlice S8192x768 ![0, 768] · slices_S8192x2304_S8192x768_0_768) : (⟨S8192x2304, .f32⟩ : BufTy).Contents (Elt F) → (⟨S8192x768, .f32⟩ : BufTy).Contents (Elt F)),
   StableHlo.unary main_v10 main_v16 ((extractStridedSlice S8192x768 ![0, 1536] · slices_S8192x2304_S8192x768_0_1536) : (⟨S8192x2304, .f32⟩ : BufTy).Contents (Elt F) → (⟨S8192x768, .f32⟩ : BufTy).Contents (Elt F)),
   StableHlo.binary main_v11 main_v14 main_v17 (addf : (⟨S8192x768, .f32⟩ : BufTy).Contents (Elt F) → (⟨S8192x768, .f32⟩ : BufTy).Contents (Elt F) → (⟨S8192x768, .f32⟩ : BufTy).Contents (Elt F)),
   StableHlo.unary main_v17 main_v18 (Host.negf : (⟨S8192x768, .f32⟩ : BufTy).Contents (Elt F) → (⟨S8192x768, .f32⟩ : BufTy).Contents (Elt F)),
   StableHlo.unary main_v18 main_v19 (Host.exp : (⟨S8192x768, .f32⟩ : BufTy).Contents (Elt F) → (⟨S8192x768, .f32⟩ : BufTy).Contents (Elt F)),
   StableHlo.nullary main_cst_0 (constant S_ .f32 0x3F800000#32),
   StableHlo.unary main_cst_0 main_v20 (broadcastInDim S8192x768 ![] bcast_S_S8192x768 : (⟨S_, .f32⟩ : BufTy).Contents (Elt F) → (⟨S8192x768, .f32⟩ : BufTy).Contents (Elt F)),
   StableHlo.binary main_v20 main_v19 main_v21 (addf : (⟨S8192x768, .f32⟩ : BufTy).Contents (Elt F) → (⟨S8192x768, .f32⟩ : BufTy).Contents (Elt F) → (⟨S8192x768, .f32⟩ : BufTy).Contents (Elt F)),
   StableHlo.nullary main_cst_1 (constant S_ .f32 0x3F800000#32),
   StableHlo.unary main_cst_1 main_v22 (broadcastInDim S8192x768 ![] bcast_S_S8192x768 : (⟨S_, .f32⟩ : BufTy).Contents (Elt F) → (⟨S8192x768, .f32⟩ : BufTy).Contents (Elt F)),
   StableHlo.binary main_v22 main_v21 main_v23 (Host.divf : (⟨S8192x768, .f32⟩ : BufTy).Contents (Elt F) → (⟨S8192x768, .f32⟩ : BufTy).Contents (Elt F) → (⟨S8192x768, .f32⟩ : BufTy).Contents (Elt F)),
   StableHlo.binary main_v12 main_v15 main_v24 (addf : (⟨S8192x768, .f32⟩ : BufTy).Contents (Elt F) → (⟨S8192x768, .f32⟩ : BufTy).Contents (Elt F) → (⟨S8192x768, .f32⟩ : BufTy).Contents (Elt F)),
   StableHlo.unary main_v24 main_v25 (Host.negf : (⟨S8192x768, .f32⟩ : BufTy).Contents (Elt F) → (⟨S8192x768, .f32⟩ : BufTy).Contents (Elt F)),
   StableHlo.unary main_v25 main_v26 (Host.exp : (⟨S8192x768, .f32⟩ : BufTy).Contents (Elt F) → (⟨S8192x768, .f32⟩ : BufTy).Contents (Elt F)),
   StableHlo.nullary main_cst_2 (constant S_ .f32 0x3F800000#32),
   StableHlo.unary main_cst_2 main_v27 (broadcastInDim S8192x768 ![] bcast_S_S8192x768 : (⟨S_, .f32⟩ : BufTy).Contents (Elt F) → (⟨S8192x768, .f32⟩ : BufTy).Contents (Elt F)),
   StableHlo.binary main_v27 main_v26 main_v28 (addf : (⟨S8192x768, .f32⟩ : BufTy).Contents (Elt F) → (⟨S8192x768, .f32⟩ : BufTy).Contents (Elt F) → (⟨S8192x768, .f32⟩ : BufTy).Contents (Elt F)),
   StableHlo.nullary main_cst_3 (constant S_ .f32 0x3F800000#32),
   StableHlo.unary main_cst_3 main_v29 (broadcastInDim S8192x768 ![] bcast_S_S8192x768 : (⟨S_, .f32⟩ : BufTy).Contents (Elt F) → (⟨S8192x768, .f32⟩ : BufTy).Contents (Elt F)),
   StableHlo.binary main_v29 main_v28 main_v30 (Host.divf : (⟨S8192x768, .f32⟩ : BufTy).Contents (Elt F) → (⟨S8192x768, .f32⟩ : BufTy).Contents (Elt F) → (⟨S8192x768, .f32⟩ : BufTy).Contents (Elt F)),
   StableHlo.binary main_v23 main_v16 main_v31 (mulf : (⟨S8192x768, .f32⟩ : BufTy).Contents (Elt F) → (⟨S8192x768, .f32⟩ : BufTy).Contents (Elt F) → (⟨S8192x768, .f32⟩ : BufTy).Contents (Elt F)),
   StableHlo.binary main_v13 main_v31 main_v32 (addf : (⟨S8192x768, .f32⟩ : BufTy).Contents (Elt F) → (⟨S8192x768, .f32⟩ : BufTy).Contents (Elt F) → (⟨S8192x768, .f32⟩ : BufTy).Contents (Elt F)),
   StableHlo.unary main_v32 main_v33 (Host.tanh : (⟨S8192x768, .f32⟩ : BufTy).Contents (Elt F) → (⟨S8192x768, .f32⟩ : BufTy).Contents (Elt F)),
   StableHlo.nullary main_cst_4 (constant S_ .f32 0x3F800000#32),
   StableHlo.unary main_cst_4 main_v34 (broadcastInDim S8192x768 ![] bcast_S_S8192x768 : (⟨S_, .f32⟩ : BufTy).Contents (Elt F) → (⟨S8192x768, .f32⟩ : BufTy).Contents (Elt F)),
   StableHlo.binary main_v34 main_v30 main_v35 (subf : (⟨S8192x768, .f32⟩ : BufTy).Contents (Elt F) → (⟨S8192x768, .f32⟩ : BufTy).Contents (Elt F) → (⟨S8192x768, .f32⟩ : BufTy).Contents (Elt F)),
   StableHlo.binary main_v35 main_v33 main_v36 (mulf : (⟨S8192x768, .f32⟩ : BufTy).Contents (Elt F) → (⟨S8192x768, .f32⟩ : BufTy).Contents (Elt F) → (⟨S8192x768, .f32⟩ : BufTy).Contents (Elt F)),
   StableHlo.binary main_v30 main_v0 main_v37 (mulf : (⟨S8192x768, .f32⟩ : BufTy).Contents (Elt F) → (⟨S8192x768, .f32⟩ : BufTy).Contents (Elt F) → (⟨S8192x768, .f32⟩ : BufTy).Contents (Elt F)),
   StableHlo.binary main_v36 main_v37 main_v38 (addf : (⟨S8192x768, .f32⟩ : BufTy).Contents (Elt F) → (⟨S8192x768, .f32⟩ : BufTy).Contents (Elt F) → (⟨S8192x768, .f32⟩ : BufTy).Contents (Elt F))]

/-- The operations of stage `Score1`, from its first to the one that writes `main_v43`. -/
def opsScore1 : List (HloOp τ sig (Elt F)) :=
  [StableHlo.unary main_arg6 main_v39 ((transpose S768x154 [1, 0] · transposes_S154x768_S768x154_1_0) : (⟨S154x768, .f32⟩ : BufTy).Contents (Elt F) → (⟨S768x154, .f32⟩ : BufTy).Contents (Elt F)),
   StableHlo.binary main_v38 main_v39 main_v40 ((fun l r => Host.dotGeneral dot_S8192x768_S768x154_S8192x154_1_0_0_1_n_n none l r) : (⟨S8192x768, .f32⟩ : BufTy).Contents (Elt F) → (⟨S768x154, .f32⟩ : BufTy).Contents (Elt F) → (⟨S8192x154, .f32⟩ : BufTy).Contents (Elt F)),
   StableHlo.unary main_arg7 main_v41 (broadcastInDim S1x154 ![1] bcast_S154_S1x154_1 : (⟨S154, .f32⟩ : BufTy).Contents (Elt F) → (⟨S1x154, .f32⟩ : BufTy).Contents (Elt F)),
   StableHlo.unary main_v41 main_v42 (broadcastInDim S8192x154 ![0, 1] bcast_S1x154_S8192x154_0_1 : (⟨S1x154, .f32⟩ : BufTy).Contents (Elt F) → (⟨S8192x154, .f32⟩ : BufTy).Contents (Elt F)),
   StableHlo.binary main_v40 main_v42 main_v43 (addf : (⟨S8192x154, .f32⟩ : BufTy).Contents (Elt F) → (⟨S8192x154, .f32⟩ : BufTy).Contents (Elt F) → (⟨S8192x154, .f32⟩ : BufTy).Contents (Elt F))]

/-- The operations of stage `Flag1`, from its first to the one that writes `main_c_7`. -/
def opsFlag1 : List (HloOp τ sig (Elt F)) :=
  [StableHlo.nullary main_c (constantI S_ 32 0#32),
   StableHlo.binary main_arg1 main_c main_v44 ((fun x v => Host.reduce IntOp.addi x v reducesTo_S8192x154_S8192_d1 h_S_) : (⟨S8192x154, .i32⟩ : BufTy).Contents (Elt F) → (⟨S_, .i32⟩ : BufTy).Contents (Elt F) → (⟨S8192, .i32⟩ : BufTy).Contents (Elt F)),
   StableHlo.nullary main_c_5 (constantI S_ 32 0#32),
   StableHlo.unary main_c_5 main_v45 (broadcastInDim S8192 ![] bcast_S_S8192 : (⟨S_, .i32⟩ : BufTy).Contents (Elt F) → (⟨S8192, .i32⟩ : BufTy).Contents (Elt F)),
   StableHlo.binary main_v44 main_v45 main_v46 (cmpi .eq : (⟨S8192, .i32⟩ : BufTy).Contents (Elt F) → (⟨S8192, .i32⟩ : BufTy).Contents (Elt F) → (⟨S8192, .i1⟩ : BufTy).Contents (Elt F)),
   StableHlo.unary main_arg1 main_v47 ((extractStridedSlice S8192x1 ![0, 0] · slices_S8192x154_S8192x1_0_0) : (⟨S8192x154, .i32⟩ : BufTy).Contents (Elt F) → (⟨S8192x1, .i32⟩ : BufTy).Contents (Elt F)),
   StableHlo.reshape main_v47 main_v48 (rfl : (.i32 : EltTy) = .i32) shapeCasts_S8192x1_S8192,
   StableHlo.nullary main_c_6 (constantI S_ 32 1#32),
   StableHlo.TRef.unary (.of main_c_6 : StableHlo.TRef sig ⟨S_, .i32⟩) main_call0.v0 id,
   StableHlo.TRef.unary main_call0.v0 main_call0.v1 (broadcastInDim S8192 ![] bcast_S_S8192),
   StableHlo.TRef.ternary (.of main_v46 : StableHlo.TRef sig ⟨S8192, .i1⟩) main_call0.v1 (.of main_v48 : StableHlo.TRef sig ⟨S8192, .i32⟩) main_call0.v2 select,
   StableHlo.nullary main_c_7 (constantI S_ 32 0#32)]

/-- The operations of stage `Mask1`, from its first to the one that writes `main_v51`. -/
def opsMask1 : List (HloOp τ sig (Elt F)) :=
  [StableHlo.unary main_c_7 main_v50 (broadcastInDim S1 ![] bcast_S_S1 : (⟨S_, .i32⟩ : BufTy).Contents (Elt F) → (⟨S1, .i32⟩ : BufTy).Contents (Elt F)),
   StableHlo.ternary main_arg1 main_v50 main_v49 main_v51 ((fun x i u => Host.scatter scatter_S8192x154_S1_S8192_0_1_1_0 (fun _ b => b) x i u) : (⟨S8192x154, .i32⟩ : BufTy).Contents (Elt F) → (⟨S1, .i32⟩ : BufTy).Contents (Elt F) → (⟨S8192, .i32⟩ : BufTy).Contents (Elt F) → (⟨S8192x154, .i32⟩ : BufTy).Contents (Elt F))]

/-- The operations of stage `Logit1`, from its first to the one that writes `main_call1.v2`. -/
def opsLogit1 : List (HloOp τ sig (Elt F)) :=
  [StableHlo.nullary main_c_8 (constantI S_ 32 0#32),
   StableHlo.unary main_c_8 main_v52 (broadcastInDim S8192x154 ![] bcast_S_S8192x154 : (⟨S_, .i32⟩ : BufTy).Contents (Elt F) → (⟨S8192x154, .i32⟩ : BufTy).Contents (Elt F)),
   StableHlo.binary main_v51 main_v52 main_v53 (cmpi .ne : (⟨S8192x154, .i32⟩ : BufTy).Contents (Elt F) → (⟨S8192x154, .i32⟩ : BufTy).Contents (Elt F) → (⟨S8192x154, .i1⟩ : BufTy).Contents (Elt F)),
   StableHlo.nullary main_cst_9 (constant S_ .f32 0xFF800000#32),
   StableHlo.TRef.unary (.of main_cst_9 : StableHlo.TRef sig ⟨S_, .f32⟩) main_call1.v0 id,
   StableHlo.TRef.unary main_call1.v0 main_call1.v1 (broadcastInDim S8192x154 ![] bcast_S_S8192x154),
   StableHlo.TRef.ternary (.of main_v53 : StableHlo.TRef sig ⟨S8192x154, .i1⟩) (.of main_v43 : StableHlo.TRef sig ⟨S8192x154, .f32⟩) main_call1.v1 main_call1.v2 select]

/-- The operations of stage `Soft1`, from its first to the one that writes `main_v65`. -/
def opsSoft1 : List (HloOp τ sig (Elt F)) :=
  [StableHlo.nullary main_cst_10 (constant S_ .f32 0xFF800000#32),
   StableHlo.binary main_v54 main_cst_10 main_v55 ((fun x v => Host.reduce FloatOps.maximumf x v reducesTo_S8192x154_S8192_d1 h_S_) : (⟨S8192x154, .f32⟩ : BufTy).Contents (Elt F) → (⟨S_, .f32⟩ : BufTy).Contents (Elt F) → (⟨S8192, .f32⟩ : BufTy).Contents (Elt F)),
   StableHlo.nullary main_cst_11 (constant S_ .f32 0xFF800000#32),
   StableHlo.unary main_cst_11 main_v56 (broadcastInDim S8192 ![] bcast_S_S8192 : (⟨S_, .f32⟩ : BufTy).Contents (Elt F) → (⟨S8192, .f32⟩ : BufTy).Contents (Elt F)),
   StableHlo.binary main_v56 main_v55 main_v57 (maximumf : (⟨S8192, .f32⟩ : BufTy).Contents (Elt F) → (⟨S8192, .f32⟩ : BufTy).Contents (Elt F) → (⟨S8192, .f32⟩ : BufTy).Contents (Elt F)),
   StableHlo.unary main_v57 main_v58 (broadcastInDim S8192x1 ![0] bcast_S8192_S8192x1_0 : (⟨S8192, .f32⟩ : BufTy).Contents (Elt F) → (⟨S8192x1, .f32⟩ : BufTy).Contents (Elt F)),
   StableHlo.unary main_v58 main_v59 (broadcastInDim S8192x154 ![0, 1] bcast_S8192x1_S8192x154_0_1 : (⟨S8192x1, .f32⟩ : BufTy).Contents (Elt F) → (⟨S8192x154, .f32⟩ : BufTy).Contents (Elt F)),
   StableHlo.binary main_v54 main_v59 main_v60 (subf : (⟨S8192x154, .f32⟩ : BufTy).Contents (Elt F) → (⟨S8192x154, .f32⟩ : BufTy).Contents (Elt F) → (⟨S8192x154, .f32⟩ : BufTy).Contents (Elt F)),
   StableHlo.unary main_v60 main_v61 (Host.exp : (⟨S8192x154, .f32⟩ : BufTy).Contents (Elt F) → (⟨S8192x154, .f32⟩ : BufTy).Contents (Elt F)),
   StableHlo.nullary main_cst_12 (constant S_ .f32 0x00000000#32),
   StableHlo.binary main_v61 main_cst_12 main_v62 ((fun x v => Host.reduceAdd x v reducesTo_S8192x154_S8192_d1 h_S_) : (⟨S8192x154, .f32⟩ : BufTy).Contents (Elt F) → (⟨S_, .f32⟩ : BufTy).Contents (Elt F) → (⟨S8192, .f32⟩ : BufTy).Contents (Elt F)),
   StableHlo.unary main_v62 main_v63 (broadcastInDim S8192x1 ![0] bcast_S8192_S8192x1_0 : (⟨S8192, .f32⟩ : BufTy).Contents (Elt F) → (⟨S8192x1, .f32⟩ : BufTy).Contents (Elt F)),
   StableHlo.unary main_v63 main_v64 (broadcastInDim S8192x154 ![0, 1] bcast_S8192x1_S8192x154_0_1 : (⟨S8192x1, .f32⟩ : BufTy).Contents (Elt F) → (⟨S8192x154, .f32⟩ : BufTy).Contents (Elt F)),
   StableHlo.binary main_v61 main_v64 main_v65 (Host.divf : (⟨S8192x154, .f32⟩ : BufTy).Contents (Elt F) → (⟨S8192x154, .f32⟩ : BufTy).Contents (Elt F) → (⟨S8192x154, .f32⟩ : BufTy).Contents (Elt F))]

/-- The operations of stage `Pick1`, from its first to the one that writes `main_call2.v1_1`. -/
def opsPick1 : List (HloOp τ sig (Elt F)) :=
  [StableHlo.TRef.nullary main_call2.v0 (iotaInDim S8192x154 32 1),
   StableHlo.TRef.nullary main_call2.cst (constant S_ .f32 0xFF800000#32),
   StableHlo.TRef.nullary main_call2.c (constantI S_ 32 0#32),
   StableHlo.TRef.quaternary (.of main_v54 : StableHlo.TRef sig ⟨S8192x154, .f32⟩) main_call2.v0 main_call2.cst main_call2.c main_call2.v1_0 (fun x y u v j => (Host.argReduce reducer_argmax_f32_i32 x y u v reducesTo_S8192x154_S8192_d1 h_S_ j).1),
   StableHlo.TRef.quaternary (.of main_v54 : StableHlo.TRef sig ⟨S8192x154, .f32⟩) main_call2.v0 main_call2.cst main_call2.c main_call2.v1_1 (fun x y u v j => (Host.argReduce reducer_argmax_f32_i32 x y u v reducesTo_S8192x154_S8192_d1 h_S_ j).2)]

/-- The operations of stage `Prob1`, from its first to the one that writes `main_v69`. -/
def opsProb1 : List (HloOp τ sig (Elt F)) :=
  [StableHlo.TRef.unary (.of main_v66 : StableHlo.TRef sig ⟨S8192, .i32⟩) main_call3.v0 (broadcastInDim S8192x1 ![0] bcast_S8192_S8192x1_0),
   StableHlo.TRef.nullary main_call3.v1 (iotaInDim S1x154 32 1),
   StableHlo.TRef.unary main_call3.v0 main_call3.v2 (broadcastInDim S8192x154 ![0, 1] bcast_S8192x1_S8192x154_0_1),
   StableHlo.TRef.unary main_call3.v1 main_call3.v3 (broadcastInDim S8192x154 ![0, 1] bcast_S1x154_S8192x154_0_1),
   StableHlo.TRef.binary main_call3.v2 main_call3.v3 main_call3.v4 (cmpi .eq),
   StableHlo.TRef.unary main_call3.v4 main_call3.v5 (uitofp .f32),
   StableHlo.binary main_v67 main_v65 main_v68 (addf : (⟨S8192x154, .f32⟩ : BufTy).Contents (Elt F) → (⟨S8192x154, .f32⟩ : BufTy).Contents (Elt F) → (⟨S8192x154, .f32⟩ : BufTy).Contents (Elt F)),
   StableHlo.binary main_v68 main_v65 main_v69 (subf : (⟨S8192x154, .f32⟩ : BufTy).Contents (Elt F) → (⟨S8192x154, .f32⟩ : BufTy).Contents (Elt F) → (⟨S8192x154, .f32⟩ : BufTy).Contents (Elt F))]

/-- The operations of stage `Top1`, from its first to the one that writes `main_call4.v1_1`. -/
def opsTop1 : List (HloOp τ sig (Elt F)) :=
  [StableHlo.TRef.nullary main_call4.v0 (iotaInDim S8192x154 32 1),
   StableHlo.TRef.nullary main_call4.cst (constant S_ .f32 0xFF800000#32),
   StableHlo.TRef.nullary main_call4.c (constantI S_ 32 0#32),
   StableHlo.TRef.quaternary (.of main_v69 : StableHlo.TRef sig ⟨S8192x154, .f32⟩) main_call4.v0 main_call4.cst main_call4.c main_call4.v1_0 (fun x y u v j => (Host.argReduce reducer_argmax_f32_i32 x y u v reducesTo_S8192x154_S8192_d1 h_S_ j).1),
   StableHlo.TRef.quaternary (.of main_v69 : StableHlo.TRef sig ⟨S8192x154, .f32⟩) main_call4.v0 main_call4.cst main_call4.c main_call4.v1_1 (fun x y u v j => (Host.argReduce reducer_argmax_f32_i32 x y u v reducesTo_S8192x154_S8192_d1 h_S_ j).2)]

/-- The operations of stage `Wrap1`, from its first to the one that writes `main_v83`. -/
def opsWrap1 : List (HloOp τ sig (Elt F)) :=
  [StableHlo.nullary main_v71 (iotaInDim S8192 32 0),
   StableHlo.nullary main_c_13 (constantI S_ 32 0#32),
   StableHlo.unary main_c_13 main_v72 (broadcastInDim S8192 ![] bcast_S_S8192 : (⟨S_, .i32⟩ : BufTy).Contents (Elt F) → (⟨S8192, .i32⟩ : BufTy).Contents (Elt F)),
   StableHlo.binary main_v71 main_v72 main_v73 (cmpi .slt : (⟨S8192, .i32⟩ : BufTy).Contents (Elt F) → (⟨S8192, .i32⟩ : BufTy).Contents (Elt F) → (⟨S8192, .i1⟩ : BufTy).Contents (Elt F)),
   StableHlo.nullary main_c_14 (constantI S_ 32 8192#32),
   StableHlo.unary main_c_14 main_v74 (broadcastInDim S8192 ![] bcast_S_S8192 : (⟨S_, .i32⟩ : BufTy).Contents (Elt F) → (⟨S8192, .i32⟩ : BufTy).Contents (Elt F)),
   StableHlo.binary main_v71 main_v74 main_v75 (addi : (⟨S8192, .i32⟩ : BufTy).Contents (Elt F) → (⟨S8192, .i32⟩ : BufTy).Contents (Elt F) → (⟨S8192, .i32⟩ : BufTy).Contents (Elt F)),
   StableHlo.ternary main_v73 main_v75 main_v71 main_v76 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.nullary main_c_15 (constantI S_ 32 0#32),
   StableHlo.unary main_c_15 main_v77 (broadcastInDim S8192 ![] bcast_S_S8192 : (⟨S_, .i32⟩ : BufTy).Contents (Elt F) → (⟨S8192, .i32⟩ : BufTy).Contents (Elt F)),
   StableHlo.binary main_v70 main_v77 main_v78 (cmpi .slt : (⟨S8192, .i32⟩ : BufTy).Contents (Elt F) → (⟨S8192, .i32⟩ : BufTy).Contents (Elt F) → (⟨S8192, .i1⟩ : BufTy).Contents (Elt F)),
   StableHlo.nullary main_c_16 (constantI S_ 32 154#32),
   StableHlo.unary main_c_16 main_v79 (broadcastInDim S8192 ![] bcast_S_S8192 : (⟨S_, .i32⟩ : BufTy).Contents (Elt F) → (⟨S8192, .i32⟩ : BufTy).Contents (Elt F)),
   StableHlo.binary main_v70 main_v79 main_v80 (addi : (⟨S8192, .i32⟩ : BufTy).Contents (Elt F) → (⟨S8192, .i32⟩ : BufTy).Contents (Elt F) → (⟨S8192, .i32⟩ : BufTy).Contents (Elt F)),
   StableHlo.ternary main_v78 main_v80 main_v70 main_v81 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.unary main_v76 main_v82 (broadcastInDim S8192x1 ![0] bcast_S8192_S8192x1_0 : (⟨S8192, .i32⟩ : BufTy).Contents (Elt F) → (⟨S8192x1, .i32⟩ : BufTy).Contents (Elt F)),
   StableHlo.unary main_v81 main_v83 (broadcastInDim S8192x1 ![0] bcast_S8192_S8192x1_0 : (⟨S8192, .i32⟩ : BufTy).Contents (Elt F) → (⟨S8192x1, .i32⟩ : BufTy).Contents (Elt F))]

/-- The operations of stage `Clear1`, from its first to the one that writes `main_v86`. -/
def opsClear1 : List (HloOp τ sig (Elt F)) :=
  [StableHlo.binary main_v82 main_v83 main_v84 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
   StableHlo.nullary main_c_17 (constantI S_ 32 0#32),
   StableHlo.unary main_c_17 main_v85 (broadcastInDim S8192 ![] bcast_S_S8192 : (⟨S_, .i32⟩ : BufTy).Contents (Elt F) → (⟨S8192, .i32⟩ : BufTy).Contents (Elt F)),
   StableHlo.ternary main_v51 main_v84 main_v85 main_v86 ((fun x i u => Host.scatter scatter_S8192x154_S8192x2_S8192_n_01_01_1 (fun _ b => b) x i u) : (⟨S8192x154, .i32⟩ : BufTy).Contents (Elt F) → (⟨S8192x2, .i32⟩ : BufTy).Contents (Elt F) → (⟨S8192, .i32⟩ : BufTy).Contents (Elt F) → (⟨S8192x154, .i32⟩ : BufTy).Contents (Elt F))]

/-- The operations of stage `Last1`, from its first to the one that writes `main_call5.v1_1`. -/
def opsLast1 : List (HloOp τ sig (Elt F)) :=
  [StableHlo.TRef.nullary main_call5.v0 (iotaInDim S8192x154 32 1),
   StableHlo.TRef.nullary main_call5.cst (constant S_ .f32 0xFF800000#32),
   StableHlo.TRef.nullary main_call5.c (constantI S_ 32 0#32),
   StableHlo.TRef.quaternary (.of main_v69 : StableHlo.TRef sig ⟨S8192x154, .f32⟩) main_call5.v0 main_call5.cst main_call5.c main_call5.v1_0 (fun x y u v j => (Host.argReduce reducer_argmax_f32_i32 x y u v reducesTo_S8192x154_S8192_d1 h_S_ j).1),
   StableHlo.TRef.quaternary (.of main_v69 : StableHlo.TRef sig ⟨S8192x154, .f32⟩) main_call5.v0 main_call5.cst main_call5.c main_call5.v1_1 (fun x y u v j => (Host.argReduce reducer_argmax_f32_i32 x y u v reducesTo_S8192x154_S8192_d1 h_S_ j).2)]

/-- The operations of stage `Next`, from its first to the one that writes `main_v89`. -/
def opsNext : List (HloOp τ sig (Elt F)) :=
  [StableHlo.binary main_v69 main_arg8 main_v88 ((fun l r => Host.dotGeneral dot_S8192x154_S154x768_S8192x768_1_0_0_1_n_n none l r) : (⟨S8192x154, .f32⟩ : BufTy).Contents (Elt F) → (⟨S154x768, .f32⟩ : BufTy).Contents (Elt F) → (⟨S8192x768, .f32⟩ : BufTy).Contents (Elt F)),
   StableHlo.binary main_arg0 main_v88 main_v89 (addf : (⟨S8192x768, .f32⟩ : BufTy).Contents (Elt F) → (⟨S8192x768, .f32⟩ : BufTy).Contents (Elt F) → (⟨S8192x768, .f32⟩ : BufTy).Contents (Elt F))]

/-- The operations of stage `Gates2`, from its first to the one that writes `main_v99`. -/
def opsGates2 : List (HloOp τ sig (Elt F)) :=
  [StableHlo.unary main_arg2 main_v90 ((transpose S768x2304 [1, 0] · transposes_S2304x768_S768x2304_1_0) : (⟨S2304x768, .f32⟩ : BufTy).Contents (Elt F) → (⟨S768x2304, .f32⟩ : BufTy).Contents (Elt F)),
   StableHlo.binary main_v89 main_v90 main_v91 ((fun l r => Host.dotGeneral dot_S8192x768_S768x2304_S8192x2304_1_0_0_1_n_n none l r) : (⟨S8192x768, .f32⟩ : BufTy).Contents (Elt F) → (⟨S768x2304, .f32⟩ : BufTy).Contents (Elt F) → (⟨S8192x2304, .f32⟩ : BufTy).Contents (Elt F)),
   StableHlo.unary main_arg4 main_v92 (broadcastInDim S1x2304 ![1] bcast_S2304_S1x2304_1 : (⟨S2304, .f32⟩ : BufTy).Contents (Elt F) → (⟨S1x2304, .f32⟩ : BufTy).Contents (Elt F)),
   StableHlo.unary main_v92 main_v93 (broadcastInDim S8192x2304 ![0, 1] bcast_S1x2304_S8192x2304_0_1 : (⟨S1x2304, .f32⟩ : BufTy).Contents (Elt F) → (⟨S8192x2304, .f32⟩ : BufTy).Contents (Elt F)),
   StableHlo.binary main_v91 main_v93 main_v94 (addf : (⟨S8192x2304, .f32⟩ : BufTy).Contents (Elt F) → (⟨S8192x2304, .f32⟩ : BufTy).Contents (Elt F) → (⟨S8192x2304, .f32⟩ : BufTy).Contents (Elt F)),
   StableHlo.unary main_arg3 main_v95 ((transpose S768x2304 [1, 0] · transposes_S2304x768_S768x2304_1_0) : (⟨S2304x768, .f32⟩ : BufTy).Contents (Elt F) → (⟨S768x2304, .f32⟩ : BufTy).Contents (Elt F)),
   StableHlo.binary main_v38 main_v95 main_v96 ((fun l r => Host.dotGeneral dot_S8192x768_S768x2304_S8192x2304_1_0_0_1_n_n none l r) : (⟨S8192x768, .f32⟩ : BufTy).Contents (Elt F) → (⟨S768x2304, .f32⟩ : BufTy).Contents (Elt F) → (⟨S8192x2304, .f32⟩ : BufTy).Contents (Elt F)),
   StableHlo.unary main_arg5 main_v97 (broadcastInDim S1x2304 ![1] bcast_S2304_S1x2304_1 : (⟨S2304, .f32⟩ : BufTy).Contents (Elt F) → (⟨S1x2304, .f32⟩ : BufTy).Contents (Elt F)),
   StableHlo.unary main_v97 main_v98 (broadcastInDim S8192x2304 ![0, 1] bcast_S1x2304_S8192x2304_0_1 : (⟨S1x2304, .f32⟩ : BufTy).Contents (Elt F) → (⟨S8192x2304, .f32⟩ : BufTy).Contents (Elt F)),
   StableHlo.binary main_v96 main_v98 main_v99 (addf : (⟨S8192x2304, .f32⟩ : BufTy).Contents (Elt F) → (⟨S8192x2304, .f32⟩ : BufTy).Contents (Elt F) → (⟨S8192x2304, .f32⟩ : BufTy).Contents (Elt F))]

/-- The operations of stage `Cell2`, from its first to the one that writes `main_v127`. -/
def opsCell2 : List (HloOp τ sig (Elt F)) :=
  [StableHlo.unary main_v94 main_v100 ((extractStridedSlice S8192x768 ![0, 0] · slices_S8192x2304_S8192x768_0_0) : (⟨S8192x2304, .f32⟩ : BufTy).Contents (Elt F) → (⟨S8192x768, .f32⟩ : BufTy).Contents (Elt F)),
   StableHlo.unary main_v94 main_v101 ((extractStridedSlice S8192x768 ![0, 768] · slices_S8192x2304_S8192x768_0_768) : (⟨S8192x2304, .f32⟩ : BufTy).Contents (Elt F) → (⟨S8192x768, .f32⟩ : BufTy).Contents (Elt F)),
   StableHlo.unary main_v94 main_v102 ((extractStridedSlice S8192x768 ![0, 1536] · slices_S8192x2304_S8192x768_0_1536) : (⟨S8192x2304, .f32⟩ : BufTy).Contents (Elt F) → (⟨S8192x768, .f32⟩ : BufTy).Contents (Elt F)),
   StableHlo.unary main_v99 main_v103 ((extractStridedSlice S8192x768 ![0, 0] · slices_S8192x2304_S8192x768_0_0) : (⟨S8192x2304, .f32⟩ : BufTy).Contents (Elt F) → (⟨S8192x768, .f32⟩ : BufTy).Contents (Elt F)),
   StableHlo.unary main_v99 main_v104 ((extractStridedSlice S8192x768 ![0, 768] · slices_S8192x2304_S8192x768_0_768) : (⟨S8192x2304, .f32⟩ : BufTy).Contents (Elt F) → (⟨S8192x768, .f32⟩ : BufTy).Contents (Elt F)),
   StableHlo.unary main_v99 main_v105 ((extractStridedSlice S8192x768 ![0, 1536] · slices_S8192x2304_S8192x768_0_1536) : (⟨S8192x2304, .f32⟩ : BufTy).Contents (Elt F) → (⟨S8192x768, .f32⟩ : BufTy).Contents (Elt F)),
   StableHlo.binary main_v100 main_v103 main_v106 (addf : (⟨S8192x768, .f32⟩ : BufTy).Contents (Elt F) → (⟨S8192x768, .f32⟩ : BufTy).Contents (Elt F) → (⟨S8192x768, .f32⟩ : BufTy).Contents (Elt F)),
   StableHlo.unary main_v106 main_v107 (Host.negf : (⟨S8192x768, .f32⟩ : BufTy).Contents (Elt F) → (⟨S8192x768, .f32⟩ : BufTy).Contents (Elt F)),
   StableHlo.unary main_v107 main_v108 (Host.exp : (⟨S8192x768, .f32⟩ : BufTy).Contents (Elt F) → (⟨S8192x768, .f32⟩ : BufTy).Contents (Elt F)),
   StableHlo.nullary main_cst_18 (constant S_ .f32 0x3F800000#32),
   StableHlo.unary main_cst_18 main_v109 (broadcastInDim S8192x768 ![] bcast_S_S8192x768 : (⟨S_, .f32⟩ : BufTy).Contents (Elt F) → (⟨S8192x768, .f32⟩ : BufTy).Contents (Elt F)),
   StableHlo.binary main_v109 main_v108 main_v110 (addf : (⟨S8192x768, .f32⟩ : BufTy).Contents (Elt F) → (⟨S8192x768, .f32⟩ : BufTy).Contents (Elt F) → (⟨S8192x768, .f32⟩ : BufTy).Contents (Elt F)),
   StableHlo.nullary main_cst_19 (constant S_ .f32 0x3F800000#32),
   StableHlo.unary main_cst_19 main_v111 (broadcastInDim S8192x768 ![] bcast_S_S8192x768 : (⟨S_, .f32⟩ : BufTy).Contents (Elt F) → (⟨S8192x768, .f32⟩ : BufTy).Contents (Elt F)),
   StableHlo.binary main_v111 main_v110 main_v112 (Host.divf : (⟨S8192x768, .f32⟩ : BufTy).Contents (Elt F) → (⟨S8192x768, .f32⟩ : BufTy).Contents (Elt F) → (⟨S8192x768, .f32⟩ : BufTy).Contents (Elt F)),
   StableHlo.binary main_v101 main_v104 main_v113 (addf : (⟨S8192x768, .f32⟩ : BufTy).Contents (Elt F) → (⟨S8192x768, .f32⟩ : BufTy).Contents (Elt F) → (⟨S8192x768, .f32⟩ : BufTy).Contents (Elt F)),
   StableHlo.unary main_v113 main_v114 (Host.negf : (⟨S8192x768, .f32⟩ : BufTy).Contents (Elt F) → (⟨S8192x768, .f32⟩ : BufTy).Contents (Elt F)),
   StableHlo.unary main_v114 main_v115 (Host.exp : (⟨S8192x768, .f32⟩ : BufTy).Contents (Elt F) → (⟨S8192x768, .f32⟩ : BufTy).Contents (Elt F)),
   StableHlo.nullary main_cst_20 (constant S_ .f32 0x3F800000#32),
   StableHlo.unary main_cst_20 main_v116 (broadcastInDim S8192x768 ![] bcast_S_S8192x768 : (⟨S_, .f32⟩ : BufTy).Contents (Elt F) → (⟨S8192x768, .f32⟩ : BufTy).Contents (Elt F)),
   StableHlo.binary main_v116 main_v115 main_v117 (addf : (⟨S8192x768, .f32⟩ : BufTy).Contents (Elt F) → (⟨S8192x768, .f32⟩ : BufTy).Contents (Elt F) → (⟨S8192x768, .f32⟩ : BufTy).Contents (Elt F)),
   StableHlo.nullary main_cst_21 (constant S_ .f32 0x3F800000#32),
   StableHlo.unary main_cst_21 main_v118 (broadcastInDim S8192x768 ![] bcast_S_S8192x768 : (⟨S_, .f32⟩ : BufTy).Contents (Elt F) → (⟨S8192x768, .f32⟩ : BufTy).Contents (Elt F)),
   StableHlo.binary main_v118 main_v117 main_v119 (Host.divf : (⟨S8192x768, .f32⟩ : BufTy).Contents (Elt F) → (⟨S8192x768, .f32⟩ : BufTy).Contents (Elt F) → (⟨S8192x768, .f32⟩ : BufTy).Contents (Elt F)),
   StableHlo.binary main_v112 main_v105 main_v120 (mulf : (⟨S8192x768, .f32⟩ : BufTy).Contents (Elt F) → (⟨S8192x768, .f32⟩ : BufTy).Contents (Elt F) → (⟨S8192x768, .f32⟩ : BufTy).Contents (Elt F)),
   StableHlo.binary main_v102 main_v120 main_v121 (addf : (⟨S8192x768, .f32⟩ : BufTy).Contents (Elt F) → (⟨S8192x768, .f32⟩ : BufTy).Contents (Elt F) → (⟨S8192x768, .f32⟩ : BufTy).Contents (Elt F)),
   StableHlo.unary main_v121 main_v122 (Host.tanh : (⟨S8192x768, .f32⟩ : BufTy).Contents (Elt F) → (⟨S8192x768, .f32⟩ : BufTy).Contents (Elt F)),
   StableHlo.nullary main_cst_22 (constant S_ .f32 0x3F800000#32),
   StableHlo.unary main_cst_22 main_v123 (broadcastInDim S8192x768 ![] bcast_S_S8192x768 : (⟨S_, .f32⟩ : BufTy).Contents (Elt F) → (⟨S8192x768, .f32⟩ : BufTy).Contents (Elt F)),
   StableHlo.binary main_v123 main_v119 main_v124 (subf : (⟨S8192x768, .f32⟩ : BufTy).Contents (Elt F) → (⟨S8192x768, .f32⟩ : BufTy).Contents (Elt F) → (⟨S8192x768, .f32⟩ : BufTy).Contents (Elt F)),
   StableHlo.binary main_v124 main_v122 main_v125 (mulf : (⟨S8192x768, .f32⟩ : BufTy).Contents (Elt F) → (⟨S8192x768, .f32⟩ : BufTy).Contents (Elt F) → (⟨S8192x768, .f32⟩ : BufTy).Contents (Elt F)),
   StableHlo.binary main_v119 main_v38 main_v126 (mulf : (⟨S8192x768, .f32⟩ : BufTy).Contents (Elt F) → (⟨S8192x768, .f32⟩ : BufTy).Contents (Elt F) → (⟨S8192x768, .f32⟩ : BufTy).Contents (Elt F)),
   StableHlo.binary main_v125 main_v126 main_v127 (addf : (⟨S8192x768, .f32⟩ : BufTy).Contents (Elt F) → (⟨S8192x768, .f32⟩ : BufTy).Contents (Elt F) → (⟨S8192x768, .f32⟩ : BufTy).Contents (Elt F))]

/-- The operations of stage `Score2`, from its first to the one that writes `main_v132`. -/
def opsScore2 : List (HloOp τ sig (Elt F)) :=
  [StableHlo.unary main_arg6 main_v128 ((transpose S768x154 [1, 0] · transposes_S154x768_S768x154_1_0) : (⟨S154x768, .f32⟩ : BufTy).Contents (Elt F) → (⟨S768x154, .f32⟩ : BufTy).Contents (Elt F)),
   StableHlo.binary main_v127 main_v128 main_v129 ((fun l r => Host.dotGeneral dot_S8192x768_S768x154_S8192x154_1_0_0_1_n_n none l r) : (⟨S8192x768, .f32⟩ : BufTy).Contents (Elt F) → (⟨S768x154, .f32⟩ : BufTy).Contents (Elt F) → (⟨S8192x154, .f32⟩ : BufTy).Contents (Elt F)),
   StableHlo.unary main_arg7 main_v130 (broadcastInDim S1x154 ![1] bcast_S154_S1x154_1 : (⟨S154, .f32⟩ : BufTy).Contents (Elt F) → (⟨S1x154, .f32⟩ : BufTy).Contents (Elt F)),
   StableHlo.unary main_v130 main_v131 (broadcastInDim S8192x154 ![0, 1] bcast_S1x154_S8192x154_0_1 : (⟨S1x154, .f32⟩ : BufTy).Contents (Elt F) → (⟨S8192x154, .f32⟩ : BufTy).Contents (Elt F)),
   StableHlo.binary main_v129 main_v131 main_v132 (addf : (⟨S8192x154, .f32⟩ : BufTy).Contents (Elt F) → (⟨S8192x154, .f32⟩ : BufTy).Contents (Elt F) → (⟨S8192x154, .f32⟩ : BufTy).Contents (Elt F))]

/-- The operations of stage `Mask2`, from its first to the one that writes `main_v139`. -/
def opsMask2 : List (HloOp τ sig (Elt F)) :=
  [StableHlo.nullary main_c_23 (constantI S_ 32 0#32),
   StableHlo.unary main_c_23 main_v133 (broadcastInDim S8192 ![] bcast_S_S8192 : (⟨S_, .i32⟩ : BufTy).Contents (Elt F) → (⟨S8192, .i32⟩ : BufTy).Contents (Elt F)),
   StableHlo.binary main_v87 main_v133 main_v134 (cmpi .eq : (⟨S8192, .i32⟩ : BufTy).Contents (Elt F) → (⟨S8192, .i32⟩ : BufTy).Contents (Elt F) → (⟨S8192, .i1⟩ : BufTy).Contents (Elt F)),
   StableHlo.unary main_v134 main_v135 (broadcastInDim S8192x1 ![0] bcast_S8192_S8192x1_0 : (⟨S8192, .i1⟩ : BufTy).Contents (Elt F) → (⟨S8192x1, .i1⟩ : BufTy).Contents (Elt F)),
   StableHlo.nullary main_c_24 (constantI S_ 32 0#32),
   StableHlo.TRef.unary (.of main_c_24 : StableHlo.TRef sig ⟨S_, .i32⟩) main_call6.v0 id,
   StableHlo.TRef.unary (.of main_v135 : StableHlo.TRef sig ⟨S8192x1, .i1⟩) main_call6.v1 (broadcastInDim S8192x154 ![0, 1] bcast_S8192x1_S8192x154_0_1),
   StableHlo.TRef.unary main_call6.v0 main_call6.v2 (broadcastInDim S8192x154 ![] bcast_S_S8192x154),
   StableHlo.TRef.ternary main_call6.v1 main_call6.v2 (.of main_v86 : StableHlo.TRef sig ⟨S8192x154, .i32⟩) main_call6.v3 select,
   StableHlo.nullary main_c_25 (constantI S_ 32 0#32),
   StableHlo.unary main_c_25 main_v137 (broadcastInDim S1 ![] bcast_S_S1 : (⟨S_, .i32⟩ : BufTy).Contents (Elt F) → (⟨S1, .i32⟩ : BufTy).Contents (Elt F)),
   StableHlo.nullary main_c_26 (constantI S_ 32 1#32),
   StableHlo.unary main_c_26 main_v138 (broadcastInDim S8192 ![] bcast_S_S8192 : (⟨S_, .i32⟩ : BufTy).Contents (Elt F) → (⟨S8192, .i32⟩ : BufTy).Contents (Elt F)),
   StableHlo.ternary main_v136 main_v137 main_v138 main_v139 ((fun x i u => Host.scatter scatter_S8192x154_S1_S8192_0_1_1_0 (fun _ b => b) x i u) : (⟨S8192x154, .i32⟩ : BufTy).Contents (Elt F) → (⟨S1, .i32⟩ : BufTy).Contents (Elt F) → (⟨S8192, .i32⟩ : BufTy).Contents (Elt F) → (⟨S8192x154, .i32⟩ : BufTy).Contents (Elt F))]

/-- The operations of stage `Logit2`, from its first to the one that writes `main_call7.v2`. -/
def opsLogit2 : List (HloOp τ sig (Elt F)) :=
  [StableHlo.nullary main_c_27 (constantI S_ 32 0#32),
   StableHlo.unary main_c_27 main_v140 (broadcastInDim S8192x154 ![] bcast_S_S8192x154 : (⟨S_, .i32⟩ : BufTy).Contents (Elt F) → (⟨S8192x154, .i32⟩ : BufTy).Contents (Elt F)),
   StableHlo.binary main_v139 main_v140 main_v141 (cmpi .ne : (⟨S8192x154, .i32⟩ : BufTy).Contents (Elt F) → (⟨S8192x154, .i32⟩ : BufTy).Contents (Elt F) → (⟨S8192x154, .i1⟩ : BufTy).Contents (Elt F)),
   StableHlo.nullary main_cst_28 (constant S_ .f32 0xFF800000#32),
   StableHlo.TRef.unary (.of main_cst_28 : StableHlo.TRef sig ⟨S_, .f32⟩) main_call7.v0 id,
   StableHlo.TRef.unary main_call7.v0 main_call7.v1 (broadcastInDim S8192x154 ![] bcast_S_S8192x154),
   StableHlo.TRef.ternary (.of main_v141 : StableHlo.TRef sig ⟨S8192x154, .i1⟩) (.of main_v132 : StableHlo.TRef sig ⟨S8192x154, .f32⟩) main_call7.v1 main_call7.v2 select]

/-- The operations of stage `Shift2`, from its first to the one that writes `main_v146`. -/
def opsShift2 : List (HloOp τ sig (Elt F)) :=
  [StableHlo.nullary main_cst_29 (constant S_ .f32 0xFF800000#32),
   StableHlo.binary main_v142 main_cst_29 main_v143 ((fun x v => Host.reduce FloatOps.maximumf x v reducesTo_S8192x154_S8192_d1 h_S_) : (⟨S8192x154, .f32⟩ : BufTy).Contents (Elt F) → (⟨S_, .f32⟩ : BufTy).Contents (Elt F) → (⟨S8192, .f32⟩ : BufTy).Contents (Elt F)),
   StableHlo.nullary main_cst_30 (constant S_ .f32 0xFF800000#32),
   StableHlo.unary main_cst_30 main_v144 (broadcastInDim S8192 ![] bcast_S_S8192 : (⟨S_, .f32⟩ : BufTy).Contents (Elt F) → (⟨S8192, .f32⟩ : BufTy).Contents (Elt F)),
   StableHlo.binary main_v144 main_v143 main_v145 (maximumf : (⟨S8192, .f32⟩ : BufTy).Contents (Elt F) → (⟨S8192, .f32⟩ : BufTy).Contents (Elt F) → (⟨S8192, .f32⟩ : BufTy).Contents (Elt F)),
   StableHlo.unary main_v145 main_v146 (broadcastInDim S8192x1 ![0] bcast_S8192_S8192x1_0 : (⟨S8192, .f32⟩ : BufTy).Contents (Elt F) → (⟨S8192x1, .f32⟩ : BufTy).Contents (Elt F))]

/-- The operations of stage `Soft2`, from its first to the one that writes `main_v153`. -/
def opsSoft2 : List (HloOp τ sig (Elt F)) :=
  [StableHlo.unary main_v146 main_v147 (broadcastInDim S8192x154 ![0, 1] bcast_S8192x1_S8192x154_0_1 : (⟨S8192x1, .f32⟩ : BufTy).Contents (Elt F) → (⟨S8192x154, .f32⟩ : BufTy).Contents (Elt F)),
   StableHlo.binary main_v142 main_v147 main_v148 (subf : (⟨S8192x154, .f32⟩ : BufTy).Contents (Elt F) → (⟨S8192x154, .f32⟩ : BufTy).Contents (Elt F) → (⟨S8192x154, .f32⟩ : BufTy).Contents (Elt F)),
   StableHlo.unary main_v148 main_v149 (Host.exp : (⟨S8192x154, .f32⟩ : BufTy).Contents (Elt F) → (⟨S8192x154, .f32⟩ : BufTy).Contents (Elt F)),
   StableHlo.nullary main_cst_31 (constant S_ .f32 0x00000000#32),
   StableHlo.binary main_v149 main_cst_31 main_v150 ((fun x v => Host.reduceAdd x v reducesTo_S8192x154_S8192_d1 h_S_) : (⟨S8192x154, .f32⟩ : BufTy).Contents (Elt F) → (⟨S_, .f32⟩ : BufTy).Contents (Elt F) → (⟨S8192, .f32⟩ : BufTy).Contents (Elt F)),
   StableHlo.unary main_v150 main_v151 (broadcastInDim S8192x1 ![0] bcast_S8192_S8192x1_0 : (⟨S8192, .f32⟩ : BufTy).Contents (Elt F) → (⟨S8192x1, .f32⟩ : BufTy).Contents (Elt F)),
   StableHlo.unary main_v151 main_v152 (broadcastInDim S8192x154 ![0, 1] bcast_S8192x1_S8192x154_0_1 : (⟨S8192x1, .f32⟩ : BufTy).Contents (Elt F) → (⟨S8192x154, .f32⟩ : BufTy).Contents (Elt F)),
   StableHlo.binary main_v149 main_v152 main_v153 (Host.divf : (⟨S8192x154, .f32⟩ : BufTy).Contents (Elt F) → (⟨S8192x154, .f32⟩ : BufTy).Contents (Elt F) → (⟨S8192x154, .f32⟩ : BufTy).Contents (Elt F))]

/-- The operations of stage `Pick2`, from its first to the one that writes `main_call8.v1_1`. -/
def opsPick2 : List (HloOp τ sig (Elt F)) :=
  [StableHlo.TRef.nullary main_call8.v0 (iotaInDim S8192x154 32 1),
   StableHlo.TRef.nullary main_call8.cst (constant S_ .f32 0xFF800000#32),
   StableHlo.TRef.nullary main_call8.c (constantI S_ 32 0#32),
   StableHlo.TRef.quaternary (.of main_v142 : StableHlo.TRef sig ⟨S8192x154, .f32⟩) main_call8.v0 main_call8.cst main_call8.c main_call8.v1_0 (fun x y u v j => (Host.argReduce reducer_argmax_f32_i32 x y u v reducesTo_S8192x154_S8192_d1 h_S_ j).1),
   StableHlo.TRef.quaternary (.of main_v142 : StableHlo.TRef sig ⟨S8192x154, .f32⟩) main_call8.v0 main_call8.cst main_call8.c main_call8.v1_1 (fun x y u v j => (Host.argReduce reducer_argmax_f32_i32 x y u v reducesTo_S8192x154_S8192_d1 h_S_ j).2)]

/-- The operations of stage `Prob2`, from its first to the one that writes `main_v157`. -/
def opsProb2 : List (HloOp τ sig (Elt F)) :=
  [StableHlo.TRef.unary (.of main_v154 : StableHlo.TRef sig ⟨S8192, .i32⟩) main_call9.v0 (broadcastInDim S8192x1 ![0] bcast_S8192_S8192x1_0),
   StableHlo.TRef.nullary main_call9.v1 (iotaInDim S1x154 32 1),
   StableHlo.TRef.unary main_call9.v0 main_call9.v2 (broadcastInDim S8192x154 ![0, 1] bcast_S8192x1_S8192x154_0_1),
   StableHlo.TRef.unary main_call9.v1 main_call9.v3 (broadcastInDim S8192x154 ![0, 1] bcast_S1x154_S8192x154_0_1),
   StableHlo.TRef.binary main_call9.v2 main_call9.v3 main_call9.v4 (cmpi .eq),
   StableHlo.TRef.unary main_call9.v4 main_call9.v5 (uitofp .f32),
   StableHlo.binary main_v155 main_v153 main_v156 (addf : (⟨S8192x154, .f32⟩ : BufTy).Contents (Elt F) → (⟨S8192x154, .f32⟩ : BufTy).Contents (Elt F) → (⟨S8192x154, .f32⟩ : BufTy).Contents (Elt F)),
   StableHlo.binary main_v156 main_v153 main_v157 (subf : (⟨S8192x154, .f32⟩ : BufTy).Contents (Elt F) → (⟨S8192x154, .f32⟩ : BufTy).Contents (Elt F) → (⟨S8192x154, .f32⟩ : BufTy).Contents (Elt F))]

/-- The operations of stage `Tail`, from its first to the one that writes `main_v177`. -/
def opsTail : List (HloOp τ sig (Elt F)) :=
  [StableHlo.TRef.nullary main_call10.v0 (iotaInDim S8192x154 32 1),
   StableHlo.TRef.nullary main_call10.cst (constant S_ .f32 0xFF800000#32),
   StableHlo.TRef.nullary main_call10.c (constantI S_ 32 0#32),
   StableHlo.TRef.quaternary (.of main_v157 : StableHlo.TRef sig ⟨S8192x154, .f32⟩) main_call10.v0 main_call10.cst main_call10.c main_call10.v1_0 (fun x y u v j => (Host.argReduce reducer_argmax_f32_i32 x y u v reducesTo_S8192x154_S8192_d1 h_S_ j).1),
   StableHlo.TRef.quaternary (.of main_v157 : StableHlo.TRef sig ⟨S8192x154, .f32⟩) main_call10.v0 main_call10.cst main_call10.c main_call10.v1_1 (fun x y u v j => (Host.argReduce reducer_argmax_f32_i32 x y u v reducesTo_S8192x154_S8192_d1 h_S_ j).2),
   StableHlo.nullary main_v159 (iotaInDim S8192 32 0),
   StableHlo.nullary main_c_32 (constantI S_ 32 0#32),
   StableHlo.unary main_c_32 main_v160 (broadcastInDim S8192 ![] bcast_S_S8192 : (⟨S_, .i32⟩ : BufTy).Contents (Elt F) → (⟨S8192, .i32⟩ : BufTy).Contents (Elt F)),
   StableHlo.binary main_v159 main_v160 main_v161 (cmpi .slt : (⟨S8192, .i32⟩ : BufTy).Contents (Elt F) → (⟨S8192, .i32⟩ : BufTy).Contents (Elt F) → (⟨S8192, .i1⟩ : BufTy).Contents (Elt F)),
   StableHlo.nullary main_c_33 (constantI S_ 32 8192#32),
   StableHlo.unary main_c_33 main_v162 (broadcastInDim S8192 ![] bcast_S_S8192 : (⟨S_, .i32⟩ : BufTy).Contents (Elt F) → (⟨S8192, .i32⟩ : BufTy).Contents (Elt F)),
   StableHlo.binary main_v159 main_v162 main_v163 (addi : (⟨S8192, .i32⟩ : BufTy).Contents (Elt F) → (⟨S8192, .i32⟩ : BufTy).Contents (Elt F) → (⟨S8192, .i32⟩ : BufTy).Contents (Elt F)),
   StableHlo.ternary main_v161 main_v163 main_v159 main_v164 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.nullary main_c_34 (constantI S_ 32 0#32),
   StableHlo.unary main_c_34 main_v165 (broadcastInDim S8192 ![] bcast_S_S8192 : (⟨S_, .i32⟩ : BufTy).Contents (Elt F) → (⟨S8192, .i32⟩ : BufTy).Contents (Elt F)),
   StableHlo.binary main_v158 main_v165 main_v166 (cmpi .slt : (⟨S8192, .i32⟩ : BufTy).Contents (Elt F) → (⟨S8192, .i32⟩ : BufTy).Contents (Elt F) → (⟨S8192, .i1⟩ : BufTy).Contents (Elt F)),
   StableHlo.nullary main_c_35 (constantI S_ 32 154#32),
   StableHlo.unary main_c_35 main_v167 (broadcastInDim S8192 ![] bcast_S_S8192 : (⟨S_, .i32⟩ : BufTy).Contents (Elt F) → (⟨S8192, .i32⟩ : BufTy).Contents (Elt F)),
   StableHlo.binary main_v158 main_v167 main_v168 (addi : (⟨S8192, .i32⟩ : BufTy).Contents (Elt F) → (⟨S8192, .i32⟩ : BufTy).Contents (Elt F) → (⟨S8192, .i32⟩ : BufTy).Contents (Elt F)),
   StableHlo.ternary main_v166 main_v168 main_v158 main_v169 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
   StableHlo.unary main_v164 main_v170 (broadcastInDim S8192x1 ![0] bcast_S8192_S8192x1_0 : (⟨S8192, .i32⟩ : BufTy).Contents (Elt F) → (⟨S8192x1, .i32⟩ : BufTy).Contents (Elt F)),
   StableHlo.unary main_v169 main_v171 (broadcastInDim S8192x1 ![0] bcast_S8192_S8192x1_0 : (⟨S8192, .i32⟩ : BufTy).Contents (Elt F) → (⟨S8192x1, .i32⟩ : BufTy).Contents (Elt F)),
   StableHlo.binary main_v170 main_v171 main_v172 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
   StableHlo.nullary main_c_36 (constantI S_ 32 0#32),
   StableHlo.unary main_c_36 main_v173 (broadcastInDim S8192 ![] bcast_S_S8192 : (⟨S_, .i32⟩ : BufTy).Contents (Elt F) → (⟨S8192, .i32⟩ : BufTy).Contents (Elt F)),
   StableHlo.ternary main_v139 main_v172 main_v173 main_v174 ((fun x i u => Host.scatter scatter_S8192x154_S8192x2_S8192_n_01_01_1 (fun _ b => b) x i u) : (⟨S8192x154, .i32⟩ : BufTy).Contents (Elt F) → (⟨S8192x2, .i32⟩ : BufTy).Contents (Elt F) → (⟨S8192, .i32⟩ : BufTy).Contents (Elt F) → (⟨S8192x154, .i32⟩ : BufTy).Contents (Elt F)),
   StableHlo.TRef.nullary main_call11.v0 (iotaInDim S8192x154 32 1),
   StableHlo.TRef.nullary main_call11.cst (constant S_ .f32 0xFF800000#32),
   StableHlo.TRef.nullary main_call11.c (constantI S_ 32 0#32),
   StableHlo.TRef.quaternary (.of main_v157 : StableHlo.TRef sig ⟨S8192x154, .f32⟩) main_call11.v0 main_call11.cst main_call11.c main_call11.v1_0 (fun x y u v j => (Host.argReduce reducer_argmax_f32_i32 x y u v reducesTo_S8192x154_S8192_d1 h_S_ j).1),
   StableHlo.TRef.quaternary (.of main_v157 : StableHlo.TRef sig ⟨S8192x154, .f32⟩) main_call11.v0 main_call11.cst main_call11.c main_call11.v1_1 (fun x y u v j => (Host.argReduce reducer_argmax_f32_i32 x y u v reducesTo_S8192x154_S8192_d1 h_S_ j).2),
   StableHlo.binary main_v157 main_arg8 main_v176 ((fun l r => Host.dotGeneral dot_S8192x154_S154x768_S8192x768_1_0_0_1_n_n none l r) : (⟨S8192x154, .f32⟩ : BufTy).Contents (Elt F) → (⟨S154x768, .f32⟩ : BufTy).Contents (Elt F) → (⟨S8192x768, .f32⟩ : BufTy).Contents (Elt F)),
   StableHlo.binary main_arg0 main_v176 main_v177 (addf : (⟨S8192x768, .f32⟩ : BufTy).Contents (Elt F) → (⟨S8192x768, .f32⟩ : BufTy).Contents (Elt F) → (⟨S8192x768, .f32⟩ : BufTy).Contents (Elt F))]

/-- The operations of stage `Stack`, from its first to the one that writes `main_v180`. -/
def opsStack : List (HloOp τ sig (Elt F)) :=
  [StableHlo.unary main_v69 main_v178 (broadcastInDim S8192x1x154 ![0, 2] bcast_S8192x154_S8192x1x154_0_2 : (⟨S8192x154, .f32⟩ : BufTy).Contents (Elt F) → (⟨S8192x1x154, .f32⟩ : BufTy).Contents (Elt F)),
   StableHlo.unary main_v157 main_v179 (broadcastInDim S8192x1x154 ![0, 2] bcast_S8192x154_S8192x1x154_0_2 : (⟨S8192x154, .f32⟩ : BufTy).Contents (Elt F) → (⟨S8192x1x154, .f32⟩ : BufTy).Contents (Elt F)),
   StableHlo.binary main_v178 main_v179 main_v180 ((fun a b => concatenate S8192x2x154 1 [⟨S8192x1x154, a⟩, ⟨S8192x1x154, b⟩] concatenates_S8192x1x154_S8192x1x154_S8192x2x154_d1) : (⟨S8192x1x154, .f32⟩ : BufTy).Contents (Elt F) → (⟨S8192x1x154, .f32⟩ : BufTy).Contents (Elt F) → (⟨S8192x2x154, .f32⟩ : BufTy).Contents (Elt F))]

/-- The whole line, grouped as the printed reference groups its statements. -/
def line : List (HloOp τ sig (Elt F)) :=
  (opsCell1 ++ opsScore1 ++ opsFlag1) ++
  ((opsMask1 ++ opsLogit1 ++ opsSoft1 ++ opsPick1 ++ opsProb1 ++ opsTop1 ++ opsWrap1 ++ opsClear1 ++ opsLast1 ++ opsNext ++ opsGates2) ++
  ((opsCell2 ++ opsScore2 ++ opsMask2 ++ opsLogit2 ++ opsShift2) ++
  ((opsSoft2 ++ opsPick2 ++ opsProb2 ++ opsTail ++ opsStack))))

end Cert.ReferenceIdeal.Line

end
-- ==== Proof.RefSeq.lean ====
/-
  The printed reference, part by part, is the line of operations of RefLine.lean.
-/
module

public import proofs.«01_k».proof.Proof.RefLine

@[expose] public section

noncomputable section

namespace Cert.ReferenceIdeal.Line

open Idealize.ShloMosaic Idealize.ShloMosaic.TcCoe Idealize.SL.Sem Cert.ReferenceIdeal Cert.ReferenceIdeal.Gen

variable {F : FTy → Type} [FloatOps F]

set_option maxRecDepth 16384 in
set_option maxHeartbeats 4000000 in
/-- Part 0 of the printed reference. -/
theorem part0_line (d : Dev nD) : main_part0 (F := F) d = StableHlo.seq (opsCell1 ++ opsScore1 ++ opsFlag1) := by
  simp only [main_part0, fn_where.body, opsCell1, opsScore1, opsFlag1, List.cons_append, List.nil_append, StableHlo.seq, bind_assoc, pure_bind]
  try rfl

set_option maxRecDepth 16384 in
set_option maxHeartbeats 4000000 in
/-- Part 1 of the printed reference. -/
theorem part1_line (d : Dev nD) : main_part1 (F := F) d = StableHlo.seq (opsMask1 ++ opsLogit1 ++ opsSoft1 ++ opsPick1 ++ opsProb1 ++ opsTop1 ++ opsWrap1 ++ opsClear1 ++ opsLast1 ++ opsNext ++ opsGates2) := by
  simp only [main_part1, fn_where_0.body, fn_argmax.body, fn_one_hot.body, opsMask1, opsLogit1, opsSoft1, opsPick1, opsProb1, opsTop1, opsWrap1, opsClear1, opsLast1, opsNext, opsGates2, List.cons_append, List.nil_append, StableHlo.seq, bind_assoc, pure_bind]
  try rfl

set_option maxRecDepth 16384 in
set_option maxHeartbeats 4000000 in
/-- Part 2 of the printed reference. -/
theorem part2_line (d : Dev nD) : main_part2 (F := F) d = StableHlo.seq (opsCell2 ++ opsScore2 ++ opsMask2 ++ opsLogit2 ++ opsShift2) := by
  simp only [main_part2, fn_where_1.body, fn_where_0.body, opsCell2, opsScore2, opsMask2, opsLogit2, opsShift2, List.cons_append, List.nil_append, StableHlo.seq, bind_assoc, pure_bind]
  try rfl

set_option maxRecDepth 16384 in
set_option maxHeartbeats 4000000 in
/-- Part 3 of the printed reference. -/
theorem part3_line (d : Dev nD) : main_part3 (F := F) d = StableHlo.seq (opsSoft2 ++ opsPick2 ++ opsProb2 ++ opsTail ++ opsStack) := by
  simp only [main_part3, fn_argmax.body, fn_one_hot.body, opsSoft2, opsPick2, opsProb2, opsTail, opsStack, List.cons_append, List.nil_append, StableHlo.seq, bind_assoc, pure_bind]
  try rfl

/-- The printed reference is the line. -/
theorem main_line (d : Dev nD) : StableHlo.IsSeq (main (F := F) d) line := by
  unfold StableHlo.IsSeq line
  rw [StableHlo.seq_append (opsCell1 ++ opsScore1 ++ opsFlag1), StableHlo.seq_append (opsMask1 ++ opsLogit1 ++ opsSoft1 ++ opsPick1 ++ opsProb1 ++ opsTop1 ++ opsWrap1 ++ opsClear1 ++ opsLast1 ++ opsNext ++ opsGates2),
    StableHlo.seq_append (opsCell2 ++ opsScore2 ++ opsMask2 ++ opsLogit2 ++ opsShift2), ← part0_line d, ← part1_line d, ← part2_line d, ← part3_line d]
  rfl

end Cert.ReferenceIdeal.Line

end
-- ==== Proof.RefKeeps.lean ====
/-
  What each stage of the reference's line writes, what it keeps, and that it runs.
-/
module

public import proofs.«01_k».proof.Proof.RefSeq
public import Idealize.ShloMosaic.Lib.StableHlo.RunRead
public import Idealize.ShloMosaic.Lib.Quiescent
public import Idealize.ShloMosaic.Lib.Pipeline.Frame

@[expose] public section

set_option maxRecDepth 16384

noncomputable section

namespace Cert.ReferenceIdeal.Line

open Idealize.ShloMosaic Idealize.ShloMosaic.TcCoe Idealize.SL.Sem Cert.ReferenceIdeal Cert.ReferenceIdeal.Gen

variable {F : FTy → Type} [FloatOps F]

/-- No operation of a list allocates, from one after the other. -/
theorem fresh_of {l : List (HloOp τ sig (Elt F))} (h : l.Forall fun op => op.fresh = ∅) : ∀ op ∈ l, op.fresh = ∅ :=
  List.forall_iff_forall_mem.mp h

/-- The buffers stage `Cell1` writes, in order. -/
abbrev wrCell1 : List (Ref sig .tc) :=
  [main_cst, main_v0, main_v1, main_v2, main_v3, main_v4, main_v5, main_v6, main_v7, main_v8, main_v9, main_v10, main_v11, main_v12, main_v13, main_v14, main_v15, main_v16, main_v17, main_v18, main_v19, main_cst_0, main_v20, main_v21, main_cst_1, main_v22, main_v23, main_v24, main_v25, main_v26, main_cst_2, main_v27, main_v28, main_cst_3, main_v29, main_v30, main_v31, main_v32, main_v33, main_cst_4, main_v34, main_v35, main_v36, main_v37, main_v38]

/-- A buffer stage `Cell1` does not write holds what it held. -/
theorem keepCell1 {r : Ref sig .tc} (hr : r ∉ wrCell1) (V : Valuation τ sig (Elt F)) :
    StableHlo.after opsCell1 V (Proc.devRef .tc r) = V (Proc.devRef .tc r) :=
  StableHlo.after_unwritten wrCell1 rfl hr V

/-- Stage `Cell1` touches TensorCore buffers only. -/
theorem subCell1 : (opsCell1 : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- Stage `Cell1` allocates nothing. -/
theorem freshCell1 : ∀ op ∈ (opsCell1 : List (HloOp τ sig (Elt F))), op.fresh = ∅ :=
  fresh_of (l := opsCell1) ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers stage `Score1` writes, in order. -/
abbrev wrScore1 : List (Ref sig .tc) :=
  [main_v39, main_v40, main_v41, main_v42, main_v43]

/-- A buffer stage `Score1` does not write holds what it held. -/
theorem keepScore1 {r : Ref sig .tc} (hr : r ∉ wrScore1) (V : Valuation τ sig (Elt F)) :
    StableHlo.after opsScore1 V (Proc.devRef .tc r) = V (Proc.devRef .tc r) :=
  StableHlo.after_unwritten wrScore1 rfl hr V

/-- Stage `Score1` touches TensorCore buffers only. -/
theorem subScore1 : (opsScore1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩

/-- Stage `Score1` allocates nothing. -/
theorem freshScore1 : ∀ op ∈ (opsScore1 : List (HloOp τ sig (Elt F))), op.fresh = ∅ :=
  fresh_of (l := opsScore1) ⟨rfl, rfl, rfl, rfl, rfl⟩

/-- The buffers stage `Flag1` writes, in order. -/
abbrev wrFlag1 : List (Ref sig .tc) :=
  [main_c, main_v44, main_c_5, main_v45, main_v46, main_v47, main_v48, main_c_6, main_call0.v0.ref, main_call0.v1.ref, main_call0.v2.ref, main_c_7]

/-- A buffer stage `Flag1` does not write holds what it held. -/
theorem keepFlag1 {r : Ref sig .tc} (hr : r ∉ wrFlag1) (V : Valuation τ sig (Elt F)) :
    StableHlo.after opsFlag1 V (Proc.devRef .tc r) = V (Proc.devRef .tc r) :=
  StableHlo.after_unwritten wrFlag1 rfl hr V

/-- Stage `Flag1` touches TensorCore buffers only. -/
theorem subFlag1 : (opsFlag1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.nullary_bufs_sub ..⟩

/-- Stage `Flag1` allocates nothing. -/
theorem freshFlag1 : ∀ op ∈ (opsFlag1 : List (HloOp τ sig (Elt F))), op.fresh = ∅ :=
  fresh_of (l := opsFlag1) ⟨rfl, rfl, rfl, rfl, rfl, rfl, rfl, rfl, rfl, rfl, rfl, rfl⟩

/-- The buffers stage `Mask1` writes, in order. -/
abbrev wrMask1 : List (Ref sig .tc) :=
  [main_v50, main_v51]

/-- A buffer stage `Mask1` does not write holds what it held. -/
theorem keepMask1 {r : Ref sig .tc} (hr : r ∉ wrMask1) (V : Valuation τ sig (Elt F)) :
    StableHlo.after opsMask1 V (Proc.devRef .tc r) = V (Proc.devRef .tc r) :=
  StableHlo.after_unwritten wrMask1 rfl hr V

/-- Stage `Mask1` touches TensorCore buffers only. -/
theorem subMask1 : (opsMask1 : List (HloOp τ sig (Elt F))).Forall fun op => op.bufs ⊆ StableHlo.tcRefs τ sig :=
  ⟨StableHlo.unary_bufs_sub .., StableHlo.ternary_bufs_sub ..⟩

/-- Stage `Mask1` allocates nothing. -/
theorem freshMask1 : ∀ op ∈ (opsMask1 : List (HloOp τ sig (Elt F))), op.fresh = ∅ :=
  fresh_of (l := opsMask1) ⟨rfl, rfl⟩

/-- The buffers stage `Logit1` writes, in order. -/
abbrev wrLogit1 : List (Ref sig .tc) :=
  [main_c_8, main_v52, main_v53, main_cst_9, main_call1.v0.ref, main_call1.v1.ref, main_call1.v2.ref]

/-- A buffer stage `Logit1` does not write holds what it held. -/
theorem keepLogit1 {r : Ref sig .tc} (hr : r ∉ wrLogit1) (V : Valuation τ sig (Elt F)) :
    StableHlo.after opsLogit1 V (Proc.devRef .tc r) = V (Proc.devRef .tc r) :=
  StableHlo.after_unwritten wrLogit1 rfl hr V

/-- Stage `Logit1` touches TensorCore buffers only. -/
theorem subLogit1 : (opsLogit1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩

/-- Stage `Logit1` allocates nothing. -/
theorem freshLogit1 : ∀ op ∈ (opsLogit1 : List (HloOp τ sig (Elt F))), op.fresh = ∅ :=
  fresh_of (l := opsLogit1) ⟨rfl, rfl, rfl, rfl, rfl, rfl, rfl⟩

/-- The buffers stage `Soft1` writes, in order. -/
abbrev wrSoft1 : List (Ref sig .tc) :=
  [main_cst_10, main_v55, main_cst_11, main_v56, main_v57, main_v58, main_v59, main_v60, main_v61, main_cst_12, main_v62, main_v63, main_v64, main_v65]

/-- A buffer stage `Soft1` does not write holds what it held. -/
theorem keepSoft1 {r : Ref sig .tc} (hr : r ∉ wrSoft1) (V : Valuation τ sig (Elt F)) :
    StableHlo.after opsSoft1 V (Proc.devRef .tc r) = V (Proc.devRef .tc r) :=
  StableHlo.after_unwritten wrSoft1 rfl hr V

/-- Stage `Soft1` touches TensorCore buffers only. -/
theorem subSoft1 : (opsSoft1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- Stage `Soft1` allocates nothing. -/
theorem freshSoft1 : ∀ op ∈ (opsSoft1 : List (HloOp τ sig (Elt F))), op.fresh = ∅ :=
  fresh_of (l := opsSoft1) ⟨rfl, rfl, rfl, rfl, rfl, rfl, rfl, rfl, rfl, rfl, rfl, rfl, rfl, rfl⟩

/-- The buffers stage `Pick1` writes, in order. -/
abbrev wrPick1 : List (Ref sig .tc) :=
  [main_call2.v0.ref, main_call2.cst.ref, main_call2.c.ref, main_call2.v1_0.ref, main_call2.v1_1.ref]

/-- A buffer stage `Pick1` does not write holds what it held. -/
theorem keepPick1 {r : Ref sig .tc} (hr : r ∉ wrPick1) (V : Valuation τ sig (Elt F)) :
    StableHlo.after opsPick1 V (Proc.devRef .tc r) = V (Proc.devRef .tc r) :=
  StableHlo.after_unwritten wrPick1 rfl hr V

/-- Stage `Pick1` touches TensorCore buffers only. -/
theorem subPick1 : (opsPick1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Stage `Pick1` allocates nothing. -/
theorem freshPick1 : ∀ op ∈ (opsPick1 : List (HloOp τ sig (Elt F))), op.fresh = ∅ :=
  fresh_of (l := opsPick1) ⟨rfl, rfl, rfl, rfl, rfl⟩

/-- The buffers stage `Prob1` writes, in order. -/
abbrev wrProb1 : List (Ref sig .tc) :=
  [main_call3.v0.ref, main_call3.v1.ref, main_call3.v2.ref, main_call3.v3.ref, main_call3.v4.ref, main_call3.v5.ref, main_v68, main_v69]

/-- A buffer stage `Prob1` does not write holds what it held. -/
theorem keepProb1 {r : Ref sig .tc} (hr : r ∉ wrProb1) (V : Valuation τ sig (Elt F)) :
    StableHlo.after opsProb1 V (Proc.devRef .tc r) = V (Proc.devRef .tc r) :=
  StableHlo.after_unwritten wrProb1 rfl hr V

/-- Stage `Prob1` touches TensorCore buffers only. -/
theorem subProb1 : (opsProb1 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub ..⟩

/-- Stage `Prob1` allocates nothing. -/
theorem freshProb1 : ∀ op ∈ (opsProb1 : List (HloOp τ sig (Elt F))), op.fresh = ∅ :=
  fresh_of (l := opsProb1) ⟨rfl, rfl, rfl, rfl, rfl, rfl, rfl, rfl⟩

/-- The buffers stage `Top1` writes, in order. -/
abbrev wrTop1 : List (Ref sig .tc) :=
  [main_call4.v0.ref, main_call4.cst.ref, main_call4.c.ref, main_call4.v1_0.ref, main_call4.v1_1.ref]

/-- A buffer stage `Top1` does not write holds what it held. -/
theorem keepTop1 {r : Ref sig .tc} (hr : r ∉ wrTop1) (V : Valuation τ sig (Elt F)) :
    StableHlo.after opsTop1 V (Proc.devRef .tc r) = V (Proc.devRef .tc r) :=
  StableHlo.after_unwritten wrTop1 rfl hr V

/-- Stage `Top1` touches TensorCore buffers only. -/
theorem subTop1 : (opsTop1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Stage `Top1` allocates nothing. -/
theorem freshTop1 : ∀ op ∈ (opsTop1 : List (HloOp τ sig (Elt F))), op.fresh = ∅ :=
  fresh_of (l := opsTop1) ⟨rfl, rfl, rfl, rfl, rfl⟩

/-- The buffers stage `Wrap1` writes, in order. -/
abbrev wrWrap1 : List (Ref sig .tc) :=
  [main_v71, main_c_13, main_v72, main_v73, main_c_14, main_v74, main_v75, main_v76, main_c_15, main_v77, main_v78, main_c_16, main_v79, main_v80, main_v81, main_v82, main_v83]

/-- A buffer stage `Wrap1` does not write holds what it held. -/
theorem keepWrap1 {r : Ref sig .tc} (hr : r ∉ wrWrap1) (V : Valuation τ sig (Elt F)) :
    StableHlo.after opsWrap1 V (Proc.devRef .tc r) = V (Proc.devRef .tc r) :=
  StableHlo.after_unwritten wrWrap1 rfl hr V

/-- Stage `Wrap1` touches TensorCore buffers only. -/
theorem subWrap1 : (opsWrap1 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub ..⟩

/-- Stage `Wrap1` allocates nothing. -/
theorem freshWrap1 : ∀ op ∈ (opsWrap1 : List (HloOp τ sig (Elt F))), op.fresh = ∅ :=
  fresh_of (l := opsWrap1) ⟨rfl, rfl, rfl, rfl, rfl, rfl, rfl, rfl, rfl, rfl, rfl, rfl, rfl, rfl, rfl, rfl, rfl⟩

/-- The buffers stage `Clear1` writes, in order. -/
abbrev wrClear1 : List (Ref sig .tc) :=
  [main_v84, main_c_17, main_v85, main_v86]

/-- A buffer stage `Clear1` does not write holds what it held. -/
theorem keepClear1 {r : Ref sig .tc} (hr : r ∉ wrClear1) (V : Valuation τ sig (Elt F)) :
    StableHlo.after opsClear1 V (Proc.devRef .tc r) = V (Proc.devRef .tc r) :=
  StableHlo.after_unwritten wrClear1 rfl hr V

/-- Stage `Clear1` touches TensorCore buffers only. -/
theorem subClear1 : (opsClear1 : List (HloOp τ sig (Elt F))).Forall fun op => op.bufs ⊆ StableHlo.tcRefs τ sig :=
  ⟨StableHlo.binary_bufs_sub .., StableHlo.nullary_bufs_sub .., StableHlo.unary_bufs_sub .., StableHlo.ternary_bufs_sub ..⟩

/-- Stage `Clear1` allocates nothing. -/
theorem freshClear1 : ∀ op ∈ (opsClear1 : List (HloOp τ sig (Elt F))), op.fresh = ∅ :=
  fresh_of (l := opsClear1) ⟨rfl, rfl, rfl, rfl⟩

/-- The buffers stage `Last1` writes, in order. -/
abbrev wrLast1 : List (Ref sig .tc) :=
  [main_call5.v0.ref, main_call5.cst.ref, main_call5.c.ref, main_call5.v1_0.ref, main_call5.v1_1.ref]

/-- A buffer stage `Last1` does not write holds what it held. -/
theorem keepLast1 {r : Ref sig .tc} (hr : r ∉ wrLast1) (V : Valuation τ sig (Elt F)) :
    StableHlo.after opsLast1 V (Proc.devRef .tc r) = V (Proc.devRef .tc r) :=
  StableHlo.after_unwritten wrLast1 rfl hr V

/-- Stage `Last1` touches TensorCore buffers only. -/
theorem subLast1 : (opsLast1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Stage `Last1` allocates nothing. -/
theorem freshLast1 : ∀ op ∈ (opsLast1 : List (HloOp τ sig (Elt F))), op.fresh = ∅ :=
  fresh_of (l := opsLast1) ⟨rfl, rfl, rfl, rfl, rfl⟩

/-- The buffers stage `Next` writes, in order. -/
abbrev wrNext : List (Ref sig .tc) :=
  [main_v88, main_v89]

/-- A buffer stage `Next` does not write holds what it held. -/
theorem keepNext {r : Ref sig .tc} (hr : r ∉ wrNext) (V : Valuation τ sig (Elt F)) :
    StableHlo.after opsNext V (Proc.devRef .tc r) = V (Proc.devRef .tc r) :=
  StableHlo.after_unwritten wrNext rfl hr V

/-- Stage `Next` touches TensorCore buffers only. -/
theorem subNext : (opsNext : List (HloOp τ sig (Elt F))).Forall fun op => op.bufs ⊆ StableHlo.tcRefs τ sig :=
  ⟨StableHlo.binary_bufs_sub .., StableHlo.binary_bufs_sub ..⟩

/-- Stage `Next` allocates nothing. -/
theorem freshNext : ∀ op ∈ (opsNext : List (HloOp τ sig (Elt F))), op.fresh = ∅ :=
  fresh_of (l := opsNext) ⟨rfl, rfl⟩

/-- The buffers stage `Gates2` writes, in order. -/
abbrev wrGates2 : List (Ref sig .tc) :=
  [main_v90, main_v91, main_v92, main_v93, main_v94, main_v95, main_v96, main_v97, main_v98, main_v99]

/-- A buffer stage `Gates2` does not write holds what it held. -/
theorem keepGates2 {r : Ref sig .tc} (hr : r ∉ wrGates2) (V : Valuation τ sig (Elt F)) :
    StableHlo.after opsGates2 V (Proc.devRef .tc r) = V (Proc.devRef .tc r) :=
  StableHlo.after_unwritten wrGates2 rfl hr V

/-- Stage `Gates2` touches TensorCore buffers only. -/
theorem subGates2 : (opsGates2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- Stage `Gates2` allocates nothing. -/
theorem freshGates2 : ∀ op ∈ (opsGates2 : List (HloOp τ sig (Elt F))), op.fresh = ∅ :=
  fresh_of (l := opsGates2) ⟨rfl, rfl, rfl, rfl, rfl, rfl, rfl, rfl, rfl, rfl⟩

/-- The buffers stage `Cell2` writes, in order. -/
abbrev wrCell2 : List (Ref sig .tc) :=
  [main_v100, main_v101, main_v102, main_v103, main_v104, main_v105, main_v106, main_v107, main_v108, main_cst_18, main_v109, main_v110, main_cst_19, main_v111, main_v112, main_v113, main_v114, main_v115, main_cst_20, main_v116, main_v117, main_cst_21, main_v118, main_v119, main_v120, main_v121, main_v122, main_cst_22, main_v123, main_v124, main_v125, main_v126, main_v127]

/-- A buffer stage `Cell2` does not write holds what it held. -/
theorem keepCell2 {r : Ref sig .tc} (hr : r ∉ wrCell2) (V : Valuation τ sig (Elt F)) :
    StableHlo.after opsCell2 V (Proc.devRef .tc r) = V (Proc.devRef .tc r) :=
  StableHlo.after_unwritten wrCell2 rfl hr V

/-- Stage `Cell2` touches TensorCore buffers only. -/
theorem subCell2 : (opsCell2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- Stage `Cell2` allocates nothing. -/
theorem freshCell2 : ∀ op ∈ (opsCell2 : List (HloOp τ sig (Elt F))), op.fresh = ∅ :=
  fresh_of (l := opsCell2) ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers stage `Score2` writes, in order. -/
abbrev wrScore2 : List (Ref sig .tc) :=
  [main_v128, main_v129, main_v130, main_v131, main_v132]

/-- A buffer stage `Score2` does not write holds what it held. -/
theorem keepScore2 {r : Ref sig .tc} (hr : r ∉ wrScore2) (V : Valuation τ sig (Elt F)) :
    StableHlo.after opsScore2 V (Proc.devRef .tc r) = V (Proc.devRef .tc r) :=
  StableHlo.after_unwritten wrScore2 rfl hr V

/-- Stage `Score2` touches TensorCore buffers only. -/
theorem subScore2 : (opsScore2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩

/-- Stage `Score2` allocates nothing. -/
theorem freshScore2 : ∀ op ∈ (opsScore2 : List (HloOp τ sig (Elt F))), op.fresh = ∅ :=
  fresh_of (l := opsScore2) ⟨rfl, rfl, rfl, rfl, rfl⟩

/-- The buffers stage `Mask2` writes, in order. -/
abbrev wrMask2 : List (Ref sig .tc) :=
  [main_c_23, main_v133, main_v134, main_v135, main_c_24, main_call6.v0.ref, main_call6.v1.ref, main_call6.v2.ref, main_call6.v3.ref, main_c_25, main_v137, main_c_26, main_v138, main_v139]

/-- A buffer stage `Mask2` does not write holds what it held. -/
theorem keepMask2 {r : Ref sig .tc} (hr : r ∉ wrMask2) (V : Valuation τ sig (Elt F)) :
    StableHlo.after opsMask2 V (Proc.devRef .tc r) = V (Proc.devRef .tc r) :=
  StableHlo.after_unwritten wrMask2 rfl hr V

/-- Stage `Mask2` touches TensorCore buffers only. -/
theorem subMask2 : (opsMask2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.ternary_bufs_sub ..⟩

/-- Stage `Mask2` allocates nothing. -/
theorem freshMask2 : ∀ op ∈ (opsMask2 : List (HloOp τ sig (Elt F))), op.fresh = ∅ :=
  fresh_of (l := opsMask2) ⟨rfl, rfl, rfl, rfl, rfl, rfl, rfl, rfl, rfl, rfl, rfl, rfl, rfl, rfl⟩

/-- The buffers stage `Logit2` writes, in order. -/
abbrev wrLogit2 : List (Ref sig .tc) :=
  [main_c_27, main_v140, main_v141, main_cst_28, main_call7.v0.ref, main_call7.v1.ref, main_call7.v2.ref]

/-- A buffer stage `Logit2` does not write holds what it held. -/
theorem keepLogit2 {r : Ref sig .tc} (hr : r ∉ wrLogit2) (V : Valuation τ sig (Elt F)) :
    StableHlo.after opsLogit2 V (Proc.devRef .tc r) = V (Proc.devRef .tc r) :=
  StableHlo.after_unwritten wrLogit2 rfl hr V

/-- Stage `Logit2` touches TensorCore buffers only. -/
theorem subLogit2 : (opsLogit2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩

/-- Stage `Logit2` allocates nothing. -/
theorem freshLogit2 : ∀ op ∈ (opsLogit2 : List (HloOp τ sig (Elt F))), op.fresh = ∅ :=
  fresh_of (l := opsLogit2) ⟨rfl, rfl, rfl, rfl, rfl, rfl, rfl⟩

/-- The buffers stage `Shift2` writes, in order. -/
abbrev wrShift2 : List (Ref sig .tc) :=
  [main_cst_29, main_v143, main_cst_30, main_v144, main_v145, main_v146]

/-- A buffer stage `Shift2` does not write holds what it held. -/
theorem keepShift2 {r : Ref sig .tc} (hr : r ∉ wrShift2) (V : Valuation τ sig (Elt F)) :
    StableHlo.after opsShift2 V (Proc.devRef .tc r) = V (Proc.devRef .tc r) :=
  StableHlo.after_unwritten wrShift2 rfl hr V

/-- Stage `Shift2` touches TensorCore buffers only. -/
theorem subShift2 : (opsShift2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub ..⟩

/-- Stage `Shift2` allocates nothing. -/
theorem freshShift2 : ∀ op ∈ (opsShift2 : List (HloOp τ sig (Elt F))), op.fresh = ∅ :=
  fresh_of (l := opsShift2) ⟨rfl, rfl, rfl, rfl, rfl, rfl⟩

/-- The buffers stage `Soft2` writes, in order. -/
abbrev wrSoft2 : List (Ref sig .tc) :=
  [main_v147, main_v148, main_v149, main_cst_31, main_v150, main_v151, main_v152, main_v153]

/-- A buffer stage `Soft2` does not write holds what it held. -/
theorem keepSoft2 {r : Ref sig .tc} (hr : r ∉ wrSoft2) (V : Valuation τ sig (Elt F)) :
    StableHlo.after opsSoft2 V (Proc.devRef .tc r) = V (Proc.devRef .tc r) :=
  StableHlo.after_unwritten wrSoft2 rfl hr V

/-- Stage `Soft2` touches TensorCore buffers only. -/
theorem subSoft2 : (opsSoft2 : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- Stage `Soft2` allocates nothing. -/
theorem freshSoft2 : ∀ op ∈ (opsSoft2 : List (HloOp τ sig (Elt F))), op.fresh = ∅ :=
  fresh_of (l := opsSoft2) ⟨rfl, rfl, rfl, rfl, rfl, rfl, rfl, rfl⟩

/-- The buffers stage `Pick2` writes, in order. -/
abbrev wrPick2 : List (Ref sig .tc) :=
  [main_call8.v0.ref, main_call8.cst.ref, main_call8.c.ref, main_call8.v1_0.ref, main_call8.v1_1.ref]

/-- A buffer stage `Pick2` does not write holds what it held. -/
theorem keepPick2 {r : Ref sig .tc} (hr : r ∉ wrPick2) (V : Valuation τ sig (Elt F)) :
    StableHlo.after opsPick2 V (Proc.devRef .tc r) = V (Proc.devRef .tc r) :=
  StableHlo.after_unwritten wrPick2 rfl hr V

/-- Stage `Pick2` touches TensorCore buffers only. -/
theorem subPick2 : (opsPick2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Stage `Pick2` allocates nothing. -/
theorem freshPick2 : ∀ op ∈ (opsPick2 : List (HloOp τ sig (Elt F))), op.fresh = ∅ :=
  fresh_of (l := opsPick2) ⟨rfl, rfl, rfl, rfl, rfl⟩

/-- The buffers stage `Prob2` writes, in order. -/
abbrev wrProb2 : List (Ref sig .tc) :=
  [main_call9.v0.ref, main_call9.v1.ref, main_call9.v2.ref, main_call9.v3.ref, main_call9.v4.ref, main_call9.v5.ref, main_v156, main_v157]

/-- A buffer stage `Prob2` does not write holds what it held. -/
theorem keepProb2 {r : Ref sig .tc} (hr : r ∉ wrProb2) (V : Valuation τ sig (Elt F)) :
    StableHlo.after opsProb2 V (Proc.devRef .tc r) = V (Proc.devRef .tc r) :=
  StableHlo.after_unwritten wrProb2 rfl hr V

/-- Stage `Prob2` touches TensorCore buffers only. -/
theorem subProb2 : (opsProb2 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.binary_bufs_sub ..⟩

/-- Stage `Prob2` allocates nothing. -/
theorem freshProb2 : ∀ op ∈ (opsProb2 : List (HloOp τ sig (Elt F))), op.fresh = ∅ :=
  fresh_of (l := opsProb2) ⟨rfl, rfl, rfl, rfl, rfl, rfl, rfl, rfl⟩

/-- The buffers stage `Tail` writes, in order. -/
abbrev wrTail : List (Ref sig .tc) :=
  [main_call10.v0.ref, main_call10.cst.ref, main_call10.c.ref, main_call10.v1_0.ref, main_call10.v1_1.ref, main_v159, main_c_32, main_v160, main_v161, main_c_33, main_v162, main_v163, main_v164, main_c_34, main_v165, main_v166, main_c_35, main_v167, main_v168, main_v169, main_v170, main_v171, main_v172, main_c_36, main_v173, main_v174, main_call11.v0.ref, main_call11.cst.ref, main_call11.c.ref, main_call11.v1_0.ref, main_call11.v1_1.ref, main_v176, main_v177]

/-- A buffer stage `Tail` does not write holds what it held. -/
theorem keepTail {r : Ref sig .tc} (hr : r ∉ wrTail) (V : Valuation τ sig (Elt F)) :
    StableHlo.after opsTail V (Proc.devRef .tc r) = V (Proc.devRef .tc r) :=
  StableHlo.after_unwritten wrTail rfl hr V

/-- Stage `Tail` touches TensorCore buffers only. -/
theorem subTail : (opsTail : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.nullary_bufs_sub .., StableHlo.nullary_bufs_sub .., StableHlo.nullary_bufs_sub .., StableHlo.quaternary_bufs_sub .., StableHlo.quaternary_bufs_sub .., StableHlo.binary_bufs_sub .., StableHlo.binary_bufs_sub ..⟩

/-- Stage `Tail` allocates nothing. -/
theorem freshTail : ∀ op ∈ (opsTail : List (HloOp τ sig (Elt F))), op.fresh = ∅ :=
  fresh_of (l := opsTail) ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers stage `Stack` writes, in order. -/
abbrev wrStack : List (Ref sig .tc) :=
  [main_v178, main_v179, main_v180]

/-- A buffer stage `Stack` does not write holds what it held. -/
theorem keepStack {r : Ref sig .tc} (hr : r ∉ wrStack) (V : Valuation τ sig (Elt F)) :
    StableHlo.after opsStack V (Proc.devRef .tc r) = V (Proc.devRef .tc r) :=
  StableHlo.after_unwritten wrStack rfl hr V

/-- Stage `Stack` touches TensorCore buffers only. -/
theorem subStack : (opsStack : List (HloOp τ sig (Elt F))).Forall fun op => op.bufs ⊆ StableHlo.tcRefs τ sig :=
  ⟨StableHlo.unary_bufs_sub .., StableHlo.unary_bufs_sub .., StableHlo.binary_bufs_sub ..⟩

/-- Stage `Stack` allocates nothing. -/
theorem freshStack : ∀ op ∈ (opsStack : List (HloOp τ sig (Elt F))), op.fresh = ∅ :=
  fresh_of (l := opsStack) ⟨rfl, rfl, rfl⟩

/-- The whole line touches TensorCore buffers only. -/
theorem line_sub : (line : List (HloOp τ sig (Elt F))).Forall fun op => op.bufs ⊆ StableHlo.tcRefs τ sig := by
  simp only [line, List.forall_append]
  exact ⟨⟨⟨subCell1, subScore1⟩, subFlag1⟩, ⟨⟨⟨⟨⟨⟨⟨⟨⟨⟨⟨subMask1, subLogit1⟩, subSoft1⟩, subPick1⟩, subProb1⟩, subTop1⟩, subWrap1⟩, subClear1⟩, subLast1⟩, subNext⟩, subGates2⟩, ⟨⟨⟨⟨⟨subCell2, subScore2⟩, subMask2⟩, subLogit2⟩, subShift2⟩, ⟨⟨⟨⟨subSoft2, subPick2⟩, subProb2⟩, subTail⟩, subStack⟩⟩⟩⟩

/-- The whole line allocates nothing. -/
theorem line_fresh : ∀ op ∈ (line : List (HloOp τ sig (Elt F))), op.fresh = ∅ := by
  intro op h
  simp only [line, List.mem_append] at h
  rcases h with ((h | h) | h) | (((((((((((h | h) | h) | h) | h) | h) | h) | h) | h) | h) | h) | (((((h | h) | h) | h) | h) | ((((h | h) | h) | h) | h)))
  · exact freshCell1 op h
  · exact freshScore1 op h
  · exact freshFlag1 op h
  · exact freshMask1 op h
  · exact freshLogit1 op h
  · exact freshSoft1 op h
  · exact freshPick1 op h
  · exact freshProb1 op h
  · exact freshTop1 op h
  · exact freshWrap1 op h
  · exact freshClear1 op h
  · exact freshLast1 op h
  · exact freshNext op h
  · exact freshGates2 op h
  · exact freshCell2 op h
  · exact freshScore2 op h
  · exact freshMask2 op h
  · exact freshLogit2 op h
  · exact freshShift2 op h
  · exact freshSoft2 op h
  · exact freshPick2 op h
  · exact freshProb2 op h
  · exact freshTail op h
  · exact freshStack op h

/-- The reference runs: every fair execution ends, each buffer at the line's fold over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after line (StableHlo.launchContents m d) (Proc.devRef .tc b) :=
  StableHlo.run_hlo defs main main_line (by decide) (by decide) line_sub line_fresh m ρ

/-- The nine argument arrays. -/
abbrev argRefs : List (Ref sig .tc) :=
  [main_arg0, main_arg1, main_arg2, main_arg3, main_arg4, main_arg5, main_arg6, main_arg7, main_arg8]

/-- The line writes no argument. -/
theorem line_args {r : Ref sig .tc} (hr : r ∈ argRefs) (V : Valuation τ sig (Elt F)) :
    StableHlo.after line V (Proc.devRef .tc r) = V (Proc.devRef .tc r) := by
  simp only [line, StableHlo.after_append]
  rw [keepStack ((by decide : ∀ r ∈ argRefs, r ∉ wrStack) r hr), keepTail ((by decide : ∀ r ∈ argRefs, r ∉ wrTail) r hr), keepProb2 ((by decide : ∀ r ∈ argRefs, r ∉ wrProb2) r hr), keepPick2 ((by decide : ∀ r ∈ argRefs, r ∉ wrPick2) r hr), keepSoft2 ((by decide : ∀ r ∈ argRefs, r ∉ wrSoft2) r hr), keepShift2 ((by decide : ∀ r ∈ argRefs, r ∉ wrShift2) r hr), keepLogit2 ((by decide : ∀ r ∈ argRefs, r ∉ wrLogit2) r hr), keepMask2 ((by decide : ∀ r ∈ argRefs, r ∉ wrMask2) r hr), keepScore2 ((by decide : ∀ r ∈ argRefs, r ∉ wrScore2) r hr), keepCell2 ((by decide : ∀ r ∈ argRefs, r ∉ wrCell2) r hr), keepGates2 ((by decide : ∀ r ∈ argRefs, r ∉ wrGates2) r hr), keepNext ((by decide : ∀ r ∈ argRefs, r ∉ wrNext) r hr), keepLast1 ((by decide : ∀ r ∈ argRefs, r ∉ wrLast1) r hr), keepClear1 ((by decide : ∀ r ∈ argRefs, r ∉ wrClear1) r hr), keepWrap1 ((by decide : ∀ r ∈ argRefs, r ∉ wrWrap1) r hr), keepTop1 ((by decide : ∀ r ∈ argRefs, r ∉ wrTop1) r hr), keepProb1 ((by decide : ∀ r ∈ argRefs, r ∉ wrProb1) r hr), keepPick1 ((by decide : ∀ r ∈ argRefs, r ∉ wrPick1) r hr), keepSoft1 ((by decide : ∀ r ∈ argRefs, r ∉ wrSoft1) r hr), keepLogit1 ((by decide : ∀ r ∈ argRefs, r ∉ wrLogit1) r hr), keepMask1 ((by decide : ∀ r ∈ argRefs, r ∉ wrMask1) r hr), keepFlag1 ((by decide : ∀ r ∈ argRefs, r ∉ wrFlag1) r hr), keepScore1 ((by decide : ∀ r ∈ argRefs, r ∉ wrScore1) r hr), keepCell1 ((by decide : ∀ r ∈ argRefs, r ∉ wrCell1) r hr)]

end Cert.ReferenceIdeal.Line

end
-- ==== Proof.RefFrame.lean ====
/-
  The reference runs and leaves its arguments and its counters as they were.
-/
module

public import proofs.«01_k».proof.Proof.RefKeeps

@[expose] public section

noncomputable section

namespace Cert.ReferenceIdeal.Line

open Idealize.ShloMosaic Idealize.ShloMosaic.TcCoe Idealize.SL.Sem Cert.ReferenceIdeal Cert.ReferenceIdeal.Gen

variable {F : FTy → Type} [FloatOps F]

/-- The reference runs, its arguments hold their launch contents at the end and its counters are zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  (θ_run defs _ _).mono
    (fun r h => ⟨fun c => ⟨(h c main_arg0).trans (line_args (by decide) _), (h c main_arg1).trans (line_args (by decide) _), (h c main_arg2).trans (line_args (by decide) _), (h c main_arg3).trans (line_args (by decide) _), (h c main_arg4).trans (line_args (by decide) _), (h c main_arg5).trans (line_args (by decide) _), (h c main_arg6).trans (line_args (by decide) _), (h c main_arg7).trans (line_args (by decide) _), (h c main_arg8).trans (line_args (by decide) _)⟩,
      sem_eq_zero_of_no_sems (by decide) r.2⟩)
    (run m ρ)

end Cert.ReferenceIdeal.Line

end
-- ==== Proof.Spec.lean ====
/-
  One row of the controller, as plain mathematics over the extended reals: the recurrent cell, the head, the mask,
  the first greatest logit, and the same again on the input that the pick moved.
-/
module

public import Idealize.ShloMosaic.PureOps.Ideal
public import Idealize.ShloMosaic.Lib.Pointwise.Index

@[expose] public section

noncomputable section

namespace Cert.Row

open Idealize.ShloMosaic

/-- The word `0xFF800000` reads as `-∞`. -/
theorem neg_inf : Ideal.ofBits .f32 4286578688#32 = ⊥ := by simp [Ideal.ofBits, Ideal.ieee]

/-- `x · Wᵀ + b`, one row. -/
def lin {n k : Nat} (x : Fin k → EReal) (W : Fin n → Fin k → EReal) (b : Fin n → EReal) (c : Fin n) : EReal :=
  (∑ j, x j * W c j) + b c

/-- Coordinate `j` of the reset third of a row of 2304. -/
def third0 (j : Fin 768) : Fin 2304 := ⟨j.val, by omega⟩
/-- Coordinate `j` of the update third. -/
def third1 (j : Fin 768) : Fin 2304 := ⟨768 + j.val, by omega⟩
/-- Coordinate `j` of the candidate third. -/
def third2 (j : Fin 768) : Fin 2304 := ⟨1536 + j.val, by omega⟩

/-- The update gate. -/
def upd (gi gh : Fin 2304 → EReal) (j : Fin 768) : EReal := Ideal.logistic (gi (third1 j) + gh (third1 j))

/-- The candidate state. -/
def cand (gi gh : Fin 2304 → EReal) (j : Fin 768) : EReal :=
  Ideal.tanh (gi (third2 j) + Ideal.logistic (gi (third0 j) + gh (third0 j)) * gh (third2 j))

/-- The recurrent cell from a zero state. -/
def cell0 (gi gh : Fin 2304 → EReal) (j : Fin 768) : EReal := (1 - upd gi gh j) * cand gi gh j

/-- The recurrent cell from state `h`. -/
def cell (gi gh : Fin 2304 → EReal) (h : Fin 768 → EReal) (j : Fin 768) : EReal :=
  (1 - upd gi gh j) * cand gi gh j + upd gi gh j * h j

/-- The head's row with the masked columns at `-∞`. -/
def masked (m : Fin 154 → Prop) (o : Fin 154 → EReal) (c : Fin 154) : EReal := by
  classical exact if m c then o c else ⊥

/-- `i` is the first column that attains the row's maximum. -/
def IsFirst (l : Fin 154 → EReal) (i : Fin 154) : Prop := (∀ c, l c ≤ l i) ∧ ∀ c, c < i → l c < l i

/-- The row `1` at `i`, `0` elsewhere. -/
def hot (i c : Fin 154) : EReal := if c = i then 1 else 0

/-- Every row has a first maximum. -/
theorem exists_isFirst (l : Fin 154 → EReal) : ∃ i, IsFirst l i := by
  classical
  obtain ⟨a, ha⟩ := Finite.exists_max l
  have hne : (Finset.univ.filter fun i => l a ≤ l i).Nonempty := ⟨a, by simp⟩
  refine ⟨(Finset.univ.filter fun i => l a ≤ l i).min' hne, ?_, ?_⟩
  · intro c
    have h := (Finset.mem_filter.mp (Finset.min'_mem _ hne)).2
    exact (ha c).trans h
  · intro c hc
    have h := (Finset.mem_filter.mp (Finset.min'_mem _ hne)).2
    refine lt_of_lt_of_le (lt_of_not_ge fun hge => ?_) h
    exact absurd (Finset.min'_le _ c (Finset.mem_filter.mpr ⟨Finset.mem_univ _, hge⟩)) (not_le.mpr hc)

/-- The first column that attains the row's maximum. -/
def pick (l : Fin 154 → EReal) : Fin 154 := (exists_isFirst l).choose

/-- The pick is the first maximum. -/
theorem pick_isFirst (l : Fin 154 → EReal) : IsFirst l (pick l) := (exists_isFirst l).choose_spec

/-- The first maximum is unique. -/
theorem IsFirst.unique {l : Fin 154 → EReal} {i j : Fin 154} (hi : IsFirst l i) (hj : IsFirst l j) : i = j := by
  rcases lt_trichotomy i j with h | h | h
  · exact absurd (hi.1 j) (not_le.mpr (hj.2 i h))
  · exact h
  · exact absurd (hj.1 i) (not_le.mpr (hi.2 j h))

/-- A first maximum is the pick. -/
theorem IsFirst.eq_pick {l : Fin 154 → EReal} {i : Fin 154} (hi : IsFirst l i) : pick l = i :=
  (pick_isFirst l).unique hi

/-- The first mask: the row's own, column 0 opened where the row has none. -/
def mask0 (w : Fin 154 → Prop) (c : Fin 154) : Prop := w c ∨ (c = 0 ∧ ∀ d, ¬ w d)

/-- The second mask: the picked column closed, all closed after a stop, column 0 open. -/
def mask1 (w : Fin 154 → Prop) (i c : Fin 154) : Prop := c = 0 ∨ (i ≠ 0 ∧ c ≠ i ∧ mask0 w c)

/-- The embedding moved by the mix `p` of the rows of `E`. -/
def move (x : Fin 768 → EReal) (p : Fin 154 → EReal) (E : Fin 154 → Fin 768 → EReal) (k : Fin 768) : EReal :=
  x k + ∑ c, p c * E c k

/-- A row's inputs: its embedding and mask, and the shared weights. -/
structure Inp where
  x : Fin 768 → EReal
  w : Fin 154 → Prop
  Wih : Fin 2304 → Fin 768 → EReal
  Whh : Fin 2304 → Fin 768 → EReal
  bih : Fin 2304 → EReal
  bhh : Fin 2304 → EReal
  Wo : Fin 154 → Fin 768 → EReal
  bo : Fin 154 → EReal
  emb : Fin 154 → Fin 768 → EReal

namespace Inp

variable (a : Inp)

/-- The state after the first step. -/
def h1 : Fin 768 → EReal := cell0 (lin a.x a.Wih a.bih) a.bhh
/-- The first step's head. -/
def o1 : Fin 154 → EReal := lin a.h1 a.Wo a.bo
/-- The first step's logits. -/
def l1 : Fin 154 → EReal := masked (mask0 a.w) a.o1
/-- The first step's pick. -/
def i1 : Fin 154 := pick a.l1
/-- The second step's input. -/
def y : Fin 768 → EReal := move a.x (hot a.i1) a.emb
/-- The state after the second step. -/
def h2 : Fin 768 → EReal := cell (lin a.y a.Wih a.bih) (lin a.h1 a.Whh a.bhh) a.h1
/-- The second step's head. -/
def o2 : Fin 154 → EReal := lin a.h2 a.Wo a.bo
/-- The second step's logits. -/
def l2 : Fin 154 → EReal := masked (mask1 a.w a.i1) a.o2
/-- The second step's pick. -/
def i2 : Fin 154 := pick a.l2

end Inp

/-- Row `b`'s inputs, off the nine argument arrays. -/
def inp (x : (⟨2, ![8192, 768]⟩ : Shape).Idx → EReal) (w : (⟨2, ![8192, 154]⟩ : Shape).Idx → BitVec 32)
    (Wih Whh : (⟨2, ![2304, 768]⟩ : Shape).Idx → EReal) (bih bhh : (⟨1, ![2304]⟩ : Shape).Idx → EReal)
    (Wo : (⟨2, ![154, 768]⟩ : Shape).Idx → EReal) (bo : (⟨1, ![154]⟩ : Shape).Idx → EReal)
    (emb : (⟨2, ![154, 768]⟩ : Shape).Idx → EReal) (b : Fin 8192) : Inp where
  x k := x (ix2 b k)
  w c := w (ix2 b c) ≠ 0#32
  Wih n k := Wih (ix2 n k)
  Whh n k := Whh (ix2 n k)
  bih n := bih (ix1 n)
  bhh n := bhh (ix1 n)
  Wo c k := Wo (ix2 c k)
  bo c := bo (ix1 c)
  emb c k := emb (ix2 c k)

/-- The result: row `b`, step `s`, column `c` is `1` at the step's pick and `0` elsewhere. -/
def result (a : Fin 8192 → Inp) (i : (⟨3, ![8192, 2, 154]⟩ : Shape).Idx) : EReal :=
  hot (if (i 1 : Nat) = 0 then (a (i 0)).i1 else (a (i 0)).i2) (i 2)

end Cert.Row

end
-- ==== Proof.Real.lean ====
/-
  Which of the row's values are real numbers: the states, always; the head, where its weights are; the softmax.
-/
module

public import proofs.«01_k».proof.Proof.Spec

@[expose] public section

noncomputable section

namespace Cert.Row

open Idealize.ShloMosaic

/-- `x` is a real number. -/
def IsReal (x : EReal) : Prop := ∃ r : ℝ, x = r

/-- Sums of reals are real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- Products of reals are real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- Differences of reals are real. -/
theorem IsReal.sub {x y : EReal} (hx : IsReal x) (hy : IsReal y) : IsReal (x - y) := by
  obtain ⟨r, rfl⟩ := hx
  obtain ⟨s, rfl⟩ := hy
  exact ⟨r - s, (EReal.coe_sub r s).symm⟩

/-- One is real. -/
theorem isReal_one : IsReal 1 := ⟨1, rfl⟩
/-- Zero is real. -/
theorem isReal_zero : IsReal 0 := ⟨0, rfl⟩

/-- What is neither infinity is real. -/
theorem isReal_of_ne {x : EReal} (h : x ≠ ⊥) (h' : x ≠ ⊤) : IsReal x := ⟨x.toReal, (EReal.coe_toReal h' h).symm⟩

/-- A real is not minus infinity. -/
theorem IsReal.ne_bot {x : EReal} (h : IsReal x) : x ≠ ⊥ := by
  obtain ⟨r, rfl⟩ := h
  exact EReal.coe_ne_bot r

/-- A real is not plus infinity. -/
theorem IsReal.ne_top {x : EReal} (h : IsReal x) : x ≠ ⊤ := by
  obtain ⟨r, rfl⟩ := h
  exact EReal.coe_ne_top r

/-- A finite sum of real numbers is one. -/
theorem isReal_sum {n : Nat} {f : Fin n → EReal} (h : ∀ i, IsReal (f i)) : IsReal (∑ i, f i) := by
  choose g hg using h
  refine ⟨∑ i, g i, ?_⟩
  rw [show f = fun i => (g i : EReal) from funext hg]
  exact (map_sum (⟨⟨Real.toEReal, EReal.coe_zero⟩, EReal.coe_add⟩ : ℝ →+ EReal) g Finset.univ).symm

/-- A real divided by a real that is not zero. -/
theorem IsReal.div {x y : EReal} (hx : IsReal x) (hy : IsReal y) (h0 : y ≠ 0) : IsReal (Ideal.div x y) := by
  obtain ⟨r, rfl⟩ := hx
  obtain ⟨s, rfl⟩ := hy
  refine ⟨r * s⁻¹, ?_⟩
  unfold Ideal.div
  rw [if_neg h0, ← EReal.coe_inv, EReal.coe_mul]

/-- The exponential of anything below `+∞` is real and not negative. -/
theorem exp_real {x : EReal} (h : x ≠ ⊤) : ∃ r : ℝ, 0 ≤ r ∧ Ideal.exp x = r := by
  induction x with
  | bot => exact ⟨0, le_refl _, by simp⟩
  | top => exact absurd rfl h
  | coe r => exact ⟨Real.exp r, (Real.exp_pos r).le, by simp⟩

/-- The logistic function takes real values. -/
theorem isReal_logistic (x : EReal) : IsReal (Ideal.logistic x) := by
  unfold Ideal.logistic
  by_cases h : -x = ⊤
  · rw [h]
    refine ⟨0, ?_⟩
    have e : (1 : EReal) + ⊤ = ⊤ := EReal.coe_add_top 1
    simp [Ideal.div, e]
  · obtain ⟨r, h0, hr⟩ := exp_real h
    rw [hr]
    refine isReal_one.div (isReal_one.add ⟨r, rfl⟩) ?_
    rw [← EReal.coe_one, ← EReal.coe_add, ← EReal.coe_zero, Ne, EReal.coe_eq_coe_iff]
    positivity

/-- The hyperbolic tangent takes real values. -/
theorem isReal_tanh (x : EReal) : IsReal (Ideal.tanh x) := by
  induction x with
  | bot => exact ⟨-1, by simp⟩
  | top => exact ⟨1, by simp⟩
  | coe r => exact ⟨Real.tanh r, by simp⟩

/-- The first state is real, whatever the gates' scores are. -/
theorem isReal_cell0 (gi gh : Fin 2304 → EReal) (j : Fin 768) : IsReal (cell0 gi gh j) :=
  (isReal_one.sub (isReal_logistic _)).mul (isReal_tanh _)

/-- The next state is real when the state before is. -/
theorem isReal_cell (gi gh : Fin 2304 → EReal) {h : Fin 768 → EReal} (hh : ∀ j, IsReal (h j)) (j : Fin 768) :
    IsReal (cell gi gh h j) :=
  ((isReal_one.sub (isReal_logistic _)).mul (isReal_tanh _)).add ((isReal_logistic _).mul (hh j))

/-- A linear layer of reals is real. -/
theorem isReal_lin {n k : Nat} {x : Fin k → EReal} {W : Fin n → Fin k → EReal} {b : Fin n → EReal} (hx : ∀ j, IsReal (x j))
    (hW : ∀ c j, IsReal (W c j)) (hb : ∀ c, IsReal (b c)) (c : Fin n) : IsReal (lin x W b c) :=
  (isReal_sum fun j => (hx j).mul (hW c j)).add (hb c)

/-- A one-hot entry is real. -/
theorem isReal_hot (i c : Fin 154) : IsReal (hot i c) := by
  unfold hot
  split
  · exact isReal_one
  · exact isReal_zero

/-- Adding a real number and taking it off again changes nothing. -/
theorem add_sub_self (i c : Fin 154) {s : EReal} (hs : IsReal s) : hot i c + s - s = hot i c := by
  obtain ⟨r, hr⟩ := isReal_hot i c
  obtain ⟨s, rfl⟩ := hs
  rw [hr, ← EReal.coe_add, ← EReal.coe_sub, add_sub_cancel_right]

/-- The row's softmax, as the reference computes it: the maximum taken off first. -/
def soft (l : Fin 154 → EReal) (c : Fin 154) : EReal :=
  Ideal.div (Ideal.exp (l c - max ⊥ (Finset.univ.fold max ⊥ l))) (∑ x, Ideal.exp (l x - max ⊥ (Finset.univ.fold max ⊥ l)))

/-- The fold of `max` from `-∞` is attained, and is above every column. -/
theorem fold_max_spec (l : Fin 154 → EReal) : Finset.univ.fold max ⊥ l = l (pick l) := by
  refine le_antisymm ?_ ?_
  · rw [Finset.fold_max_le]
    exact ⟨bot_le, fun c _ => (pick_isFirst l).1 c⟩
  · rw [Finset.le_fold_max]
    exact Or.inr ⟨pick l, Finset.mem_univ _, le_refl _⟩

/-- Where every column is below `+∞` and one is real, the softmax is real. -/
theorem isReal_soft {l : Fin 154 → EReal} (ht : ∀ c, l c ≠ ⊤) (hr : ∃ c, IsReal (l c)) (c : Fin 154) : IsReal (soft l c) := by
  obtain ⟨d, hd⟩ := hr
  have hM : IsReal (l (pick l)) :=
    isReal_of_ne (fun h => hd.ne_bot (le_bot_iff.mp (h ▸ (pick_isFirst l).1 d))) (ht _)
  unfold soft
  rw [fold_max_spec, max_eq_right bot_le]
  obtain ⟨m, hm⟩ := hM
  have hsub : ∀ x, l x - l (pick l) ≠ ⊤ := by
    intro x
    rw [hm]
    generalize hx : l x = y
    induction y with
    | bot => simp
    | top => exact absurd hx (ht x)
    | coe r => rw [← EReal.coe_sub]; exact EReal.coe_ne_top _
  choose g h0 hg using fun x => exp_real (hsub x)
  have hs : (∑ x, Ideal.exp (l x - l (pick l))) = ((∑ x, g x : ℝ) : EReal) := by
    rw [show (fun x => Ideal.exp (l x - l (pick l))) = fun x => (g x : EReal) from funext hg]
    exact (map_sum (⟨⟨Real.toEReal, EReal.coe_zero⟩, EReal.coe_add⟩ : ℝ →+ EReal) g Finset.univ).symm
  have h1 : g (pick l) = 1 := by
    have h := hg (pick l)
    rw [hm, ← EReal.coe_sub, sub_self, Ideal.exp_coe, Real.exp_zero] at h
    exact (EReal.coe_eq_coe_iff.mp h).symm
  have hpos : 0 < ∑ x, g x :=
    lt_of_lt_of_le (by rw [h1]; exact one_pos) (Finset.single_le_sum (f := g) (fun x _ => h0 x) (Finset.mem_univ (pick l)))
  rw [hs, hg c]
  refine IsReal.div ⟨_, rfl⟩ ⟨_, rfl⟩ ?_
  rw [← EReal.coe_zero, Ne, EReal.coe_eq_coe_iff]
  exact hpos.ne'

/-- An open column keeps its score. -/
theorem masked_of {m : Fin 154 → Prop} {o : Fin 154 → EReal} {c : Fin 154} (h : m c) : masked m o c = o c := by
  unfold masked
  exact if_pos h

/-- A masked column scores minus infinity. -/
theorem masked_of_not {m : Fin 154 → Prop} {o : Fin 154 → EReal} {c : Fin 154} (h : ¬ m c) : masked m o c = ⊥ := by
  unfold masked
  exact if_neg h

/-- Real logits under a mask that leaves a column open: the softmax is real. -/
theorem isReal_soft_masked {m : Fin 154 → Prop} {o : Fin 154 → EReal} (ho : ∀ c, IsReal (o c)) (hm : ∃ c, m c) (c : Fin 154) :
    IsReal (soft (masked m o) c) := by
  refine isReal_soft (fun c => ?_) ?_ c
  · by_cases h : m c
    · rw [masked_of h]
      exact (ho c).ne_top
    · rw [masked_of_not h]
      exact bot_ne_top
  · obtain ⟨d, hd⟩ := hm
    exact ⟨d, by rw [masked_of hd]; exact ho d⟩

/-- The first mask leaves a column open. -/
theorem exists_mask0 (w : Fin 154 → Prop) : ∃ c, mask0 w c := by
  by_cases h : ∃ c, w c
  · exact ⟨h.choose, Or.inl h.choose_spec⟩
  · exact ⟨0, Or.inr ⟨rfl, fun d hd => h ⟨d, hd⟩⟩⟩

/-- The second mask leaves column 0 open. -/
theorem exists_mask1 (w : Fin 154 → Prop) (i : Fin 154) : ∃ c, mask1 w i c := ⟨0, Or.inl rfl⟩

/-- The first greatest column of the row that is `1` at `i` and `0` elsewhere is `i`. -/
theorem pick_hot (i : Fin 154) : pick (hot i) = i := by
  have hi : hot i i = 1 := if_pos rfl
  refine IsFirst.eq_pick ⟨fun c => ?_, fun c hc => ?_⟩
  · rw [hi]
    unfold hot
    split
    · exact le_refl _
    · exact zero_le_one
  · rw [hi, hot, if_neg (ne_of_lt hc)]
    exact zero_lt_one

namespace Inp

variable (a : Inp)

/-- The first state is real. -/
theorem isReal_h1 (j : Fin 768) : IsReal (a.h1 j) := isReal_cell0 _ _ j
/-- The second state is real. -/
theorem isReal_h2 (j : Fin 768) : IsReal (a.h2 j) := isReal_cell _ _ a.isReal_h1 j

/-- The head's weights and bias are real. -/
def RealHead : Prop := (∀ c k, IsReal (a.Wo c k)) ∧ ∀ c, IsReal (a.bo c)

variable {a}

/-- The first softmax is real. -/
theorem isReal_soft1 (h : a.RealHead) (c : Fin 154) : IsReal (soft a.l1 c) :=
  isReal_soft_masked (isReal_lin a.isReal_h1 h.1 h.2) (exists_mask0 _) c

/-- The second softmax is real. -/
theorem isReal_soft2 (h : a.RealHead) (c : Fin 154) : IsReal (soft a.l2 c) :=
  isReal_soft_masked (isReal_lin a.isReal_h2 h.1 h.2) (exists_mask1 _ _) c

end Inp

end Cert.Row

end
-- ==== Proof.Drawn.lean ====
/-
  The precondition, read: every mask word is 0 or 1, and the head's weights and bias are real numbers.
-/
module

public import proofs.«01_k».proof.Pre_drawn
public import proofs.«01_k».proof.Proof.Real
public import Idealize.ShloMosaic.PureOps.IdealRules
public import Idealize.ShloMosaic.Lib.Pointwise

@[expose] public section

noncomputable section

namespace Cert.Pre_drawn

open Idealize.ShloMosaic

/-- The side conditions of the predicate's broadcasts. -/
theorem facts : Facts := ⟨by decide, by decide, by decide⟩

/-- The word `0x7F800000` reads as `+∞`. -/
theorem inf_word : (Scalar.ofBits (F := Ideal) .f32 0x7F800000#32 : EReal) = ⊤ := by
  show Ideal.ofBits .f32 2139095040#32 = ⊤
  simp [Ideal.ofBits, Ideal.ieee]

/-- A number whose magnitude is below `+∞` is real. -/
theorem isReal_of_abs (x : EReal) (h : FloatOps.cmpf (F := Ideal) (φ := .f32) .olt (FloatOps.hostAbsf (F := Ideal) (φ := .f32) x) (Scalar.ofBits .f32 0x7F800000#32) = 1#1) :
    Row.IsReal x := by
  rw [inf_word] at h
  have hlt : max x (-x) < ⊤ := by
    by_contra hn
    have h0 : FloatOps.cmpf (F := Ideal) (φ := .f32) .olt (max x (-x) : EReal) (⊤ : EReal) = 0#1 := by
      show BitVec.ofBool (decide (max x (-x) < ⊤)) = 0#1
      rw [decide_eq_false hn]; rfl
    exact absurd (h0.symm.trans h) (by decide)
  refine Row.isReal_of_ne (fun e => ?_) fun e => ?_
  · subst e; simp at hlt
  · subst e; simp at hlt

variable [Facts]
variable (x0 : FVec Ideal S8192x768 .f32) (x1 : IVec S8192x154 32) (x2 : FVec Ideal S2304x768 .f32) (x3 : FVec Ideal S2304x768 .f32)
  (x4 x5 : FVec Ideal S2304 .f32) (x6 : FVec Ideal S154x768 .f32) (x7 : FVec Ideal S154 .f32) (x8 : FVec Ideal S154x768 .f32)

/-- The mask's words are 0 or 1. -/
theorem bits (h : (fn (F := Ideal) x0 x1 x2 x3 x4 x5 x6 x7 x8).1 = fun _ => 1#1) (i : S8192x154.Idx) : x1 i = 0#32 ∨ x1 i = 1#32 := by
  have e : IntOp.ori (IntOp.cmpi .eq (x1 i) 0#32) (IntOp.cmpi .eq (x1 i) 1#32) = 1#1 := congrFun h i
  by_cases h0 : x1 i = 0#32
  · exact Or.inl h0
  by_cases h1 : x1 i = 1#32
  · exact Or.inr h1
  simp only [IntOp.cmpi, IntOp.ori, beq_false_of_ne h0, beq_false_of_ne h1] at e
  exact absurd e (by decide)

/-- The head's weights are real. -/
theorem weights (h : (fn (F := Ideal) x0 x1 x2 x3 x4 x5 x6 x7 x8).2.1 = fun _ => 1#1) (i : S154x768.Idx) : Row.IsReal (x6 i) :=
  isReal_of_abs _ (congrFun h i)

/-- The head's bias is real. -/
theorem bias (h : (fn (F := Ideal) x0 x1 x2 x3 x4 x5 x6 x7 x8).2.2 = fun _ => 1#1) (i : S154.Idx) : Row.IsReal (x7 i) :=
  isReal_of_abs _ (congrFun h i)

end Cert.Pre_drawn

end
-- ==== Proof.BlockCell.lean ====
/-
  One block's recurrent cell and head, both steps, read at a row and a column.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Block

open Idealize.ShloMosaic Idealize.ShloMosaic.TcCoe Idealize.SL.Sem Cert.KernelIdeal Cert.KernelIdeal.Gen

set_option maxHeartbeats 2000000 in
/-- The first step's state. -/
theorem pay4_at (v0 : Vec Ideal S1024x768 .f32) (v3 v5 : Vec Ideal S1x2304 .f32) (v7 : Vec Ideal S2304x768 .f32) (r : Fin 1024) (j : Fin 768) :
    k0_pay4 v0 v3 v5 v7 (ix2 r j)
      = Row.cell0 (Row.lin (fun k => v0 (ix2 r k)) (fun n k => v7 (ix2 n k)) (fun n => v3 (ix2 0 n))) (fun n => v5 (ix2 0 n)) j := by
  unfold_payloads
  pointwise
  rfl

set_option maxHeartbeats 2000000 in
/-- The first step's head. -/
theorem pay5_at (v0 : Vec Ideal S1024x768 .f32) (v3 v5 : Vec Ideal S1x2304 .f32) (v7 : Vec Ideal S2304x768 .f32) (v30 : Vec Ideal S154x768 .f32)
    (v32 : Vec Ideal S1x154 .f32) (r : Fin 1024) (c : Fin 154) :
    k0_pay5 v0 v3 v5 v7 v30 v32 (ix2 r c)
      = Row.lin (fun k => k0_pay4 v0 v3 v5 v7 (ix2 r k)) (fun n k => v30 (ix2 n k)) (fun n => v32 (ix2 0 n)) c := by
  unfold k0_pay5
  generalize k0_pay4 v0 v3 v5 v7 = h
  pointwise
  rfl

end Cert.KernelIdeal.Block

end
-- ==== Proof.Words.lean ====
/-
  Words that name a column, mask words that are 0 or 1, and their row sums.
-/
module

public import proofs.«01_k».proof.Proof.Spec
public import Idealize.ShloMosaic.PureOps.Reduce
public import Idealize.ShloMosaic.Lib.WordCmp

@[expose] public section

noncomputable section

namespace Cert.Row

open Idealize.ShloMosaic

/-- Column `c` as a word. -/
def col (c : Fin 154) : BitVec 32 := BitVec.ofNat 32 c.val

/-- A column's word, as a natural number. -/
theorem col_toNat (c : Fin 154) : (col c).toNat = c.val := by
  have := c.isLt
  rw [col, BitVec.toNat_ofNat, Nat.mod_eq_of_lt (by omega)]

/-- A column's word, as an integer. -/
theorem col_toInt (c : Fin 154) : (col c).toInt = (c.val : Int) := by
  have := c.isLt
  rw [BitVec.toInt_eq_toNat_of_lt (by rw [col_toNat]; omega), col_toNat]

/-- Columns with equal words are equal. -/
theorem col_inj {c d : Fin 154} : col c = col d ↔ c = d :=
  ⟨fun h => Fin.ext (by rw [← col_toNat, ← col_toNat, h]), fun h => h ▸ rfl⟩

/-- Only column 0 has the zero word. -/
theorem col_zero_iff {c : Fin 154} : col c = 0#32 ↔ c = 0 := col_inj (d := 0)

/-- A flag as a float: the one-hot row's element. -/
theorem hot_word (i c : Fin 154) : FloatOps.uitofp (F := Ideal) FTy.f32 (IntOp.cmpi CmpIPredicate.eq (col i) (col c)) = hot i c := by
  rw [WordCmp.cmpi_eq_eq]
  show ((BitVec.ofBool (decide (col i = col c))).toNat : EReal) = _
  unfold hot
  by_cases h : c = i
  · subst h; simp
  · rw [if_neg h]
    have : ¬ col i = col c := fun e => h (col_inj.mp e).symm
    simp [this]

/-- The fold of word additions over columns is the word of the sum. -/
theorem fold_addi (f : Fin 154 → BitVec 32) :
    Finset.univ.fold IntOp.addi 0#32 f = BitVec.ofNat 32 (∑ c, (f c).toNat) := by
  classical
  have : ∀ s : Finset (Fin 154), s.fold IntOp.addi 0#32 f = BitVec.ofNat 32 (∑ c ∈ s, (f c).toNat) := by
    intro s
    induction s using Finset.induction_on with
    | empty => rfl
    | insert a s ha ih =>
      rw [Finset.fold_insert ha, ih, Finset.sum_insert ha, BitVec.ofNat_add, BitVec.ofNat_toNat, BitVec.setWidth_eq]
      rfl
  exact this _

/-- A row of words that are 0 or 1 sums to zero exactly when it holds no 1. -/
theorem sum_zero_iff {f : Fin 154 → BitVec 32} (hf : ∀ c, f c = 0#32 ∨ f c = 1#32) :
    Finset.univ.fold IntOp.addi 0#32 f = 0#32 ↔ ∀ c, f c = 0#32 := by
  have hle : ∀ c, (f c).toNat ≤ 1 := fun c => by rcases hf c with h | h <;> rw [h] <;> decide
  have hs : ∑ c, (f c).toNat ≤ 154 := by
    refine (Finset.sum_le_sum fun c _ => hle c).trans ?_
    simp
  rw [fold_addi]
  constructor
  · intro h
    have h0 : ∑ c, (f c).toNat = 0 := by
      have := congrArg BitVec.toNat h
      rw [BitVec.toNat_ofNat, Nat.mod_eq_of_lt (by omega)] at this
      simpa using this
    intro c
    have := Finset.sum_eq_zero_iff.mp h0 c (Finset.mem_univ c)
    exact BitVec.eq_of_toNat_eq (by simpa using this)
  · intro h
    simp [h]

/-- The first step's mask words: column 0 set to 1 where the row sums to zero. -/
theorem mask0_words {f : Fin 154 → BitVec 32} (hf : ∀ c, f c = 0#32 ∨ f c = 1#32) (c : Fin 154) :
    (if c = 0 then (if Finset.univ.fold IntOp.addi 0#32 f = 0#32 then 1#32 else f 0) else f c) ≠ 0#32
      ↔ mask0 (fun c => f c ≠ 0#32) c := by
  unfold mask0
  simp only [sum_zero_iff hf, not_not]
  by_cases hc : c = 0
  · subst hc
    by_cases h : ∀ c, f c = 0#32
    · simp [h]
    · simp [h]
  · simp [hc]

/-- The second step's mask words. -/
theorem mask1_words {w : Fin 154 → Prop} {m : BitVec 32} {i c : Fin 154} (hm : m ≠ 0#32 ↔ mask0 w c) :
    (if c = 0 then 1#32 else if i = 0 then 0#32 else if c = i then 0#32 else m) ≠ 0#32 ↔ mask1 w i c := by
  unfold mask1
  rw [← hm]
  by_cases hc : c = 0
  · simp [hc]
  · by_cases hi : i = 0
    · simp [hc, hi]
    · by_cases hci : c = i
      · simp [hci, hi]
      · simp [hc, hi, hci]

end Cert.Row

end
-- ==== Proof.Bytes.lean ====
/-
  Signed greatest and least words of a row of 154.
-/
module

public import proofs.«01_k».proof.Proof.Words
public import proofs.«01_k».proof.Proof.Real

@[expose] public section

set_option maxRecDepth 16384

noncomputable section

namespace Cert.Row

open Idealize.ShloMosaic Idealize.ShloMosaic.TcCoe Idealize.SL.Sem

/-- The signed maximum, as an integer. -/
theorem toInt_maxsi (a b : BitVec 32) : (IntOp.maxsi a b).toInt = max a.toInt b.toInt := by
  unfold IntOp.maxsi
  by_cases h : b.slt a = true
  · rw [if_pos h]
    have := BitVec.slt_iff_toInt_lt.mp h
    omega
  · rw [if_neg h]
    have : ¬ b.toInt < a.toInt := fun e => h (BitVec.slt_iff_toInt_lt.mpr e)
    omega

/-- The signed minimum, as an integer. -/
theorem toInt_minsi (a b : BitVec 32) : (IntOp.minsi a b).toInt = min a.toInt b.toInt := by
  unfold IntOp.minsi
  by_cases h : a.slt b = true
  · rw [if_pos h]
    have := BitVec.slt_iff_toInt_lt.mp h
    omega
  · rw [if_neg h]
    have : ¬ a.toInt < b.toInt := fun e => h (BitVec.slt_iff_toInt_lt.mpr e)
    omega

/-- A fold of signed maxima, as an integer. -/
theorem toInt_fold_maxsi (z : BitVec 32) (f : Fin 154 → BitVec 32) :
    (Finset.univ.fold IntOp.maxsi z f).toInt = Finset.univ.fold max z.toInt fun c => (f c).toInt :=
  (Finset.fold_hom (m := BitVec.toInt) toInt_maxsi).symm

/-- A fold of signed minima, as an integer. -/
theorem toInt_fold_minsi (z : BitVec 32) (f : Fin 154 → BitVec 32) :
    (Finset.univ.fold IntOp.minsi z f).toInt = Finset.univ.fold min z.toInt fun c => (f c).toInt :=
  (Finset.fold_hom (m := BitVec.toInt) toInt_minsi).symm

/-- The greatest mask byte is zero exactly where the row's mask is empty. -/
theorem max_zero_iff {v : Fin 154 → BitVec 8} (hv : ∀ c, v c = 0#8 ∨ v c = 1#8) :
    Finset.univ.fold IntOp.maxsi 2147483648#32 (fun c => BitVec.signExtend 32 (v c)) = 0#32 ↔ ∀ c, v c = 0#8 := by
  constructor
  · intro h c
    have hc : (BitVec.signExtend 32 (v c)).toInt ≤ 0 := by
      have e := (toInt_fold_maxsi 2147483648#32 fun c => BitVec.signExtend 32 (v c)).symm.trans (congrArg BitVec.toInt h)
      exact (Finset.fold_max_le _).mp (le_of_eq e) |>.2 c (Finset.mem_univ c)
    rcases hv c with e | e
    · exact e
    · rw [e] at hc
      exact absurd hc (by decide)
  · intro h
    refine BitVec.eq_of_toInt_eq ((toInt_fold_maxsi _ _).trans (le_antisymm ?_ ?_))
    · rw [Finset.fold_max_le]
      refine ⟨by decide, fun c _ => ?_⟩
      rw [h c]
      decide
    · rw [Finset.le_fold_max]
      refine Or.inr ⟨0, Finset.mem_univ _, ?_⟩
      rw [h 0]
      decide

/-- The least column that attains the row's greatest logit. -/
theorem min_col (l : Fin 154 → EReal) :
    Finset.univ.fold IntOp.minsi 2147483647#32 (fun c => if l c = l (pick l) then col c else 154#32) = col (pick l) := by
  refine BitVec.eq_of_toInt_eq ((toInt_fold_minsi _ _).trans (le_antisymm ?_ ?_))
  · rw [Finset.fold_min_le]
    refine Or.inr ⟨pick l, Finset.mem_univ _, ?_⟩
    rw [if_pos rfl]
  · rw [Finset.le_fold_min]
    have hp := (pick l).isLt
    have h1 : (2147483647#32).toInt = 2147483647 := by decide
    have h2 : (154#32).toInt = 154 := by decide
    refine ⟨?_, fun c _ => ?_⟩
    · rw [col_toInt, h1]
      omega
    · by_cases h : l c = l (pick l)
      · rw [if_pos h, col_toInt, col_toInt]
        have : ¬ c < pick l := fun hc => absurd h ((pick_isFirst l).2 c hc).ne
        have : pick l ≤ c := not_lt.mp this
        exact_mod_cast this
      · rw [if_neg h, col_toInt, h2]
        omega

/-- The kernel's first mask byte: column 0 opened where the row's mask is empty. -/
theorem mask0_bytes {v : Fin 154 → BitVec 8} (c : Fin 154) {g : Prop} [Decidable g] (hg : g ↔ ∀ c, v c = 0#8) :
    (if c = 0 ∧ g then 1#8 else v c) ≠ 0#8 ↔ mask0 (fun c => v c ≠ 0#8) c := by
  unfold mask0
  simp only [not_not, ← hg]
  by_cases h : c = 0 ∧ g
  · rw [if_pos h]
    exact ⟨fun _ => Or.inr h, fun _ => by decide⟩
  · rw [if_neg h]
    exact ⟨Or.inl, fun e => e.resolve_right h⟩

/-- The kernel's second mask byte. -/
theorem mask1_bytes {w : Fin 154 → Prop} {m : BitVec 8} {i c : Fin 154} (hm : m ≠ 0#8 ↔ mask0 w c) :
    (if c = 0 then 1#8 else if i = 0 then 0#8 else if c = i then 0#8 else m) ≠ 0#8 ↔ mask1 w i c := by
  unfold mask1
  by_cases h0 : c = 0
  · rw [if_pos h0]
    exact ⟨fun _ => Or.inl h0, fun _ => by decide⟩
  rw [if_neg h0]
  by_cases h1 : i = 0
  · rw [if_pos h1]
    exact ⟨fun h => absurd rfl h, fun h => (h.resolve_left h0).1.elim h1⟩
  rw [if_neg h1]
  by_cases h2 : c = i
  · rw [if_pos h2]
    exact ⟨fun h => absurd rfl h, fun h => ((h.resolve_left h0).2.1 h2).elim⟩
  rw [if_neg h2, hm]
  exact ⟨fun h => Or.inr ⟨h1, h2, h⟩, fun h => (h.resolve_left h0).2.2⟩

/-- The one-hot row as the kernel makes it: a bit, widened, read as a number. -/
theorem hot_wide (i c : Fin 154) :
    FloatOps.sitofp (F := Ideal) FTy.f32 (BitVec.setWidth 32 (IntOp.cmpi CmpIPredicate.eq (col c) (col i))) = hot i c := by
  rw [WordCmp.cmpi_eq_eq]
  show (((BitVec.setWidth 32 (BitVec.ofBool (decide (col c = col i)))).toInt : ℝ) : EReal) = _
  unfold hot
  by_cases h : c = i
  · subst h; simp
  · rw [if_neg h]
    have : ¬ col c = col i := fun e => h (col_inj.mp e)
    simp [this]

/-- A logit under its mask byte. -/
theorem masked_byte {m : Fin 154 → Prop} {o : Fin 154 → EReal} {x : BitVec 8} {c : Fin 154} (h : x ≠ 0#8 ↔ m c) :
    Scalar.select (IntOp.cmpi CmpIPredicate.ne x 0#8) (o c) ⊥ = masked m o c := by
  rw [WordCmp.cmpi_ne_eq, WordCmp.select_decide]
  by_cases hx : x ≠ 0#8
  · rw [if_pos hx, masked_of (h.mp hx)]
  · rw [if_neg hx, masked_of_not (fun e => hx (h.mpr e))]

end Cert.Row

end
-- ==== Proof.BlockPick.lean ====
/-
  The masks, the picks and the moved input of a block's row, as the kernel computes them.
-/
module

public import proofs.«01_k».proof.Proof.Bytes
public import proofs.«01_k».proof.Proof.Gen.KernelIdeal.Skeleton
public import Idealize.ShloMosaic.Lib.Pointwise

@[expose] public section

set_option maxRecDepth 16384

noncomputable section

namespace Cert.KernelIdeal.Block

open Idealize.ShloMosaic Idealize.ShloMosaic.TcCoe Idealize.SL.Sem Cert.KernelIdeal Cert.KernelIdeal.Gen

/-- The column numbers of a block. -/
def cols : IVec S1024x154 32 := iota .tc S1024x154 32 [1] iota_S1024x154_d1_w32

set_option maxHeartbeats 2000000 in
/-- The least column whose logit is the row's greatest is the first greatest column. -/
theorem least_at (l : FVec Ideal S1024x154 .f32) (r : Fin 1024) :
    shapeCast S1024x1 (multiReductionI .minsi [1] S1024
      (select (cmpf .oeq l (broadcastTo S1024x154 (shapeCast S1024x1 (multiReduction .maximumf [1] S1024 l 0xFF800000#32 reduces_S1024x154_S1024 (.inl rfl) rfl)
          shapeCasts_S1024_S1024x1) broadcasts_S1024x1_S1024x154))
        cols (broadcast S1024x154 154#32)) 2147483647#32 reduces_S1024x154_S1024 rfl)
      shapeCasts_S1024_S1024x1 (ix2 r 0) = Row.col (Row.pick fun c => l (ix2 r c)) := by
  unfold cols
  pointwise
  rw [Row.neg_inf]
  have e : Finset.univ.fold max ⊥ (fun c => l (ix2 r c)) = l (ix2 r (Row.pick fun c => l (ix2 r c))) := Row.fold_max_spec _
  rw [e]
  exact Row.min_col fun c => l (ix2 r c)

set_option maxHeartbeats 2000000 in
/-- The row's greatest mask byte is zero exactly where the row's mask is empty. -/
theorem pay6_at (v1 : Vec Ideal S1024x154 .i8) (r : Fin 1024) (hv : ∀ c, v1 (ix2 r c) = 0#8 ∨ v1 (ix2 r c) = 1#8) :
    k0_pay6 v1 (ix2 r 0) = 0#32 ↔ ∀ c, v1 (ix2 r c) = 0#8 := by
  unfold_payloads
  pointwise
  exact Row.max_zero_iff hv

set_option maxHeartbeats 2000000 in
/-- The first mask. -/
theorem pay7_at (v2 : IVec S1024x154 8) (v39 : IVec S1024x1 32) (r : Fin 1024) (h : v39 (ix2 r 0) = 0#32 ↔ ∀ c, v2 (ix2 r c) = 0#8) (c : Fin 154) :
    k0_pay7 v2 cols v39 0#32 (ix2 r c) ≠ 0#8 ↔ Row.mask0 (fun c => v2 (ix2 r c) ≠ 0#8) c := by
  unfold cols
  have e : k0_pay7 v2 (iota .tc S1024x154 32 [1] iota_S1024x154_d1_w32) v39 0#32 (ix2 r c)
      = if c = 0 ∧ v39 (ix2 r 0) = 0#32 then 1#8 else v2 (ix2 r c) := by
    unfold_payloads
    pointwise
    rw [show (BitVec.ofNat 32 c.val) = Row.col c from rfl]
    simp only [WordCmp.cmpi_eq_eq, Row.col_zero_iff]
    by_cases h0 : c = 0 <;> by_cases h1 : v39 (ix2 r 0) = 0#32 <;> simp [h0, h1, IntOp.andi, Scalar.select]
  rw [e]
  exact Row.mask0_bytes (v := fun c => v2 (ix2 r c)) c h

set_option maxHeartbeats 2000000 in
/-- The first pick, over the first mask. -/
theorem pay8_at (v2 : IVec S1024x154 8) (v35 : FVec Ideal S1024x154 .f32) (v39 : IVec S1024x1 32) (r : Fin 1024) (m : Fin 154 → Prop)
    (h : ∀ c, k0_pay7 v2 cols v39 0#32 (ix2 r c) ≠ 0#8 ↔ m c) :
    k0_pay8 v2 v35 cols v39 0#32 (ix2 r 0) = Row.col (Row.pick (Row.masked m fun c => v35 (ix2 r c))) := by
  unfold k0_pay8
  refine (least_at _ r).trans (congrArg (fun l => Row.col (Row.pick l)) (funext fun c => ?_))
  have hc := h c
  revert hc
  generalize k0_pay7 v2 cols v39 0#32 = g
  intro hc
  pointwise
  rw [Row.neg_inf]
  exact Row.masked_byte (o := fun c => v35 (ix2 r c)) hc

set_option maxHeartbeats 2000000 in
/-- The second mask, over the first and the first pick. -/
theorem pay9_at (v2 : IVec S1024x154 8) (v35 : FVec Ideal S1024x154 .f32) (v39 : IVec S1024x1 32) (r : Fin 1024) (w : Fin 154 → Prop) (i c : Fin 154)
    (h7 : k0_pay7 v2 cols v39 0#32 (ix2 r c) ≠ 0#8 ↔ Row.mask0 w c) (h8 : k0_pay8 v2 v35 cols v39 0#32 (ix2 r 0) = Row.col i) :
    k0_pay9 v2 v35 cols v39 0#32 (ix2 r c) ≠ 0#8 ↔ Row.mask1 w i c := by
  unfold k0_pay9
  revert h7 h8
  generalize k0_pay8 v2 v35 cols v39 0#32 = h
  generalize k0_pay7 v2 cols v39 0#32 = g
  intro h7 h8
  unfold cols
  pointwise
  rw [h8]
  rw [show (BitVec.ofNat 32 c.val) = Row.col c from rfl, show (0#32 : BitVec 32) = Row.col 0 from rfl]
  simp only [WordCmp.cmpi_eq_eq, WordCmp.select_decide, Row.col_inj]
  exact Row.mask1_bytes h7

set_option maxHeartbeats 2000000 in
/-- The second step's input: the embedding moved by the picked row of the table. -/
theorem pay10_at (v0 : Vec Ideal S1024x768 .f32) (v2 : IVec S1024x154 8) (v35 : FVec Ideal S1024x154 .f32) (v39 : IVec S1024x1 32) (v78 : Vec Ideal S154x768 .f32)
    (r : Fin 1024) (i : Fin 154) (h8 : k0_pay8 v2 v35 cols v39 0#32 (ix2 r 0) = Row.col i) (k : Fin 768) :
    k0_pay10 v0 v2 v35 cols v39 0#32 v78 (ix2 r k) = Row.move (fun k => v0 (ix2 r k)) (Row.hot i) (fun c k => v78 (ix2 c k)) k := by
  unfold k0_pay10
  revert h8
  generalize k0_pay8 v2 v35 cols v39 0#32 = h
  intro h8
  unfold cols
  pointwise
  rw [h8]
  exact congrArg (v0 (ix2 r k) + ·) (Finset.sum_congr rfl fun c _ => congrArg (· * v78 (ix2 c k)) (Row.hot_wide i c))

set_option maxHeartbeats 4000000 in
/-- The second pick, over the second mask. -/
theorem pay11_at (v4 v6 : FVec Ideal S1x2304 .f32) (v29 v80 : FVec Ideal S1024x768 .f32) (v77 : IVec S1024x154 8) (v81 v85 : Vec Ideal S2304x768 .f32)
    (v107 : Vec Ideal S154x768 .f32) (v109 : Vec Ideal S1x154 .f32) (r : Fin 1024) (m : Fin 154 → Prop) (hm : ∀ c, v77 (ix2 r c) ≠ 0#8 ↔ m c) :
    k0_pay11 v4 v6 v29 cols v77 v80 v81 (constant S1024x2304 .f32 0x00000000#32) v85 v107 v109 (ix2 r 0)
      = Row.col (Row.pick (Row.masked m (Row.lin
          (Row.cell (Row.lin (fun k => v80 (ix2 r k)) (fun n k => v81 (ix2 n k)) (fun n => v4 (ix2 0 n)))
            (Row.lin (fun k => v29 (ix2 r k)) (fun n k => v85 (ix2 n k)) (fun n => v6 (ix2 0 n))) (fun k => v29 (ix2 r k)))
          (fun n k => v107 (ix2 n k)) (fun n => v109 (ix2 0 n))))) := by
  unfold k0_pay11
  refine (least_at _ r).trans (congrArg (fun l => Row.col (Row.pick l)) (funext fun c => ?_))
  pointwise
  rw [Row.neg_inf]
  exact Row.masked_byte (o := Row.lin
    (Row.cell (Row.lin (fun k => v80 (ix2 r k)) (fun n k => v81 (ix2 n k)) (fun n => v4 (ix2 0 n)))
      (Row.lin (fun k => v29 (ix2 r k)) (fun n k => v85 (ix2 n k)) (fun n => v6 (ix2 0 n))) (fun k => v29 (ix2 r k)))
    (fun n k => v107 (ix2 n k)) (fun n => v109 (ix2 0 n))) (hm c)

end Cert.KernelIdeal.Block

end
-- ==== Proof.BlockOut.lean ====
/-
  The two columns of picks that the body leaves, over its blocks.
-/
module

public import proofs.«01_k».proof.Proof.BlockCell
public import proofs.«01_k».proof.Proof.BlockPick
public import proofs.«01_k».proof.Proof.Gen.KernelIdeal.Frame
public import Idealize.ShloMosaic.Lib.Pipeline.ValueKit

@[expose] public section

set_option maxRecDepth 16384

noncomputable section

namespace Cert.KernelIdeal.Block

open Idealize.ShloMosaic Idealize.ShloMosaic.TcCoe Idealize.SL.Sem Cert.KernelIdeal Cert.KernelIdeal.Gen

/-- Row `r`'s inputs, off the nine blocks. -/
def rowIn (x0 : Vec Ideal S1024x768 .f32) (x1 : Vec Ideal S1024x154 .i8) (x2 x3 : Vec Ideal S2304x768 .f32) (x4 x5 : Vec Ideal S1x2304 .f32) (x6 : Vec Ideal S154x768 .f32) (x7 : Vec Ideal S1x154 .f32) (x8 : Vec Ideal S154x768 .f32) (r : Fin 1024) : Row.Inp where
  x k := x0 (ix2 r k)
  w c := x1 (ix2 r c) ≠ 0#8
  Wih n k := x2 (ix2 n k)
  Whh n k := x3 (ix2 n k)
  bih n := x4 (ix2 0 n)
  bhh n := x5 (ix2 0 n)
  Wo c k := x6 (ix2 c k)
  bo c := x7 (ix2 0 c)
  emb c k := x8 (ix2 c k)

variable (x0 : Vec Ideal S1024x768 .f32) (x1 : Vec Ideal S1024x154 .i8) (x2 x3 : Vec Ideal S2304x768 .f32) (x4 x5 : Vec Ideal S1x2304 .f32) (x6 : Vec Ideal S154x768 .f32) (x7 : Vec Ideal S1x154 .f32) (x8 : Vec Ideal S154x768 .f32) (r : Fin 1024) (hv : ∀ c, x1 (ix2 r c) = 0#8 ∨ x1 (ix2 r c) = 1#8)

/-- The mask bytes are loaded as they are. -/
theorem pay1_eq (v : Vec Ideal S1024x154 .i8) : k0_pay1 v = v := by
  funext i
  obtain ⟨a, b, rfl⟩ : ∃ (a : Fin 1024) (b : Fin 154), i = ix2 a b := ⟨_, _, eq_ix2 i⟩
  unfold_payloads
  pointwise

/-- The input bias row is loaded as it is. -/
theorem pay2_at (v : Vec Ideal S1x2304 .f32) (n : Fin 2304) : k0_pay2 v (ix2 0 n) = v (ix2 0 n) := by
  unfold_payloads
  pointwise

/-- The state bias row is loaded as it is. -/
theorem pay3_at (v : Vec Ideal S1x2304 .f32) (n : Fin 2304) : k0_pay3 v (ix2 0 n) = v (ix2 0 n) := by
  unfold_payloads
  pointwise

/-- The first step's state is the row's. -/
theorem h1_at (j : Fin 768) : k0_pay4 x0 x4 x5 x2 (ix2 r j) = (rowIn x0 x1 x2 x3 x4 x5 x6 x7 x8 r).h1 j := by
  rw [pay4_at]
  rfl

/-- The first step's head is the row's. -/
theorem o1_at (c : Fin 154) : k0_pay5 x0 x4 x5 x2 x6 x7 (ix2 r c) = (rowIn x0 x1 x2 x3 x4 x5 x6 x7 x8 r).o1 c := by
  rw [pay5_at, funext (h1_at x0 x1 x2 x3 x4 x5 x6 x7 x8 r)]
  rfl

include hv

/-- The first mask is the row's. -/
theorem mask0_at (c : Fin 154) : k0_pay7 x1 cols (k0_pay6 x1) 0#32 (ix2 r c) ≠ 0#8 ↔ Row.mask0 (rowIn x0 x1 x2 x3 x4 x5 x6 x7 x8 r).w c :=
  pay7_at x1 (k0_pay6 x1) r (pay6_at x1 r hv) c

/-- The first pick is the row's. -/
theorem i1_at : k0_pay8 x1 (k0_pay5 x0 x4 x5 x2 x6 x7) cols (k0_pay6 x1) 0#32 (ix2 r 0) = Row.col (rowIn x0 x1 x2 x3 x4 x5 x6 x7 x8 r).i1 := by
  rw [pay8_at _ _ _ r _ (mask0_at x0 x1 x2 x3 x4 x5 x6 x7 x8 r hv), funext (o1_at x0 x1 x2 x3 x4 x5 x6 x7 x8 r)]
  rfl

/-- The second pick is the row's. -/
theorem i2_at : k0_pay11 (k0_pay2 x4) (k0_pay3 x5) (k0_pay4 x0 x4 x5 x2) cols
      (k0_pay9 x1 (k0_pay5 x0 x4 x5 x2 x6 x7) cols (k0_pay6 x1) 0#32)
      (k0_pay10 x0 x1 (k0_pay5 x0 x4 x5 x2 x6 x7) cols (k0_pay6 x1) 0#32 x8) x2 (constant S1024x2304 .f32 0x00000000#32) x3 x6 x7 (ix2 r 0)
    = Row.col (rowIn x0 x1 x2 x3 x4 x5 x6 x7 x8 r).i2 := by
  have e8 := i1_at x0 x1 x2 x3 x4 x5 x6 x7 x8 r hv
  rw [pay11_at _ _ _ _ _ _ _ _ _ r (Row.mask1 (rowIn x0 x1 x2 x3 x4 x5 x6 x7 x8 r).w (rowIn x0 x1 x2 x3 x4 x5 x6 x7 x8 r).i1)
      (fun c => pay9_at _ _ _ r _ _ c (mask0_at x0 x1 x2 x3 x4 x5 x6 x7 x8 r hv c) e8),
    funext (pay10_at x0 x1 _ (k0_pay6 x1) x8 r _ e8), funext (h1_at x0 x1 x2 x3 x4 x5 x6 x7 x8 r), funext (pay2_at x4), funext (pay3_at x5)]
  rfl

omit hv

/-- The two zero offsets. -/
theorem zeros : (![0, 0] : Fin 2 → Nat) = fun _ => 0 := funext fun a => by fin_cases a <;> rfl

/-- Where the first store's column lies. -/
theorem first_emb : (r0_6.emb (ix2 r 0) : S1024x2.Idx) = ix2 r 0 := by
  funext a
  apply Fin.ext
  rw [ValueKit.rect_emb_unit_val]
  fin_cases a <;> simp

/-- Where the second store's column lies. -/
theorem second_emb : (r0_7.emb (ix2 r 0) : S1024x2.Idx) = ix2 r 1 := by
  funext a
  apply Fin.ext
  rw [ValueKit.rect_emb_unit_val]
  fin_cases a <;> simp

/-- The second store leaves the first column alone. -/
theorem first_not_second : (ix2 r 0 : S1024x2.Idx) ∉ (r0_7 : Rect S1024x2).set := by
  rw [Rect.mem_set_unit]
  intro h
  have h1 : 1 ≤ 0 := (h 1).1
  omega

/-- The two stores read back: column 0 is the earlier's payload, -/
theorem canon_first (p q : Vec Ideal S1024x1 .i32) (r : Fin 1024) :
    View.canon (Val := Elt Ideal) (s := S1024x2) (e := .i32) [⟨r0_7, p⟩, ⟨r0_6, q⟩] (ix2 r 0) = q (ix2 r 0) := by
  have h := View.canon_cons_of_not_mem (Val := Elt Ideal) (s := S1024x2) (e := .i32) ⟨r0_7, p⟩ [⟨r0_6, q⟩] (y := ix2 r 0) (first_not_second r)
  refine h.trans ?_
  have e := View.canon_cons_emb (Val := Elt Ideal) (s := S1024x2) (e := .i32) r0_6 q [] (ix2 r 0)
  rwa [first_emb] at e

/-- column 1 the later's. -/
theorem canon_second (p q : Vec Ideal S1024x1 .i32) (r : Fin 1024) :
    View.canon (Val := Elt Ideal) (s := S1024x2) (e := .i32) [⟨r0_7, p⟩, ⟨r0_6, q⟩] (ix2 r 1) = p (ix2 r 0) := by
  have e := View.canon_cons_emb (Val := Elt Ideal) (s := S1024x2) (e := .i32) r0_7 p [⟨r0_6, q⟩] (ix2 r 0)
  rwa [second_emb] at e

/-- The body's output block with its loads read as whole blocks. -/
theorem out_eq : out0_9 x0 x1 x2 x3 x4 x5 x6 x7 x8
    = View.canon [⟨r0_7, k0_pay11 (k0_pay2 x4) (k0_pay3 x5) (k0_pay4 x0 x4 x5 x2) cols
        (k0_pay9 x1 (k0_pay5 x0 x4 x5 x2 x6 x7) cols (k0_pay6 x1) 0#32)
        (k0_pay10 x0 x1 (k0_pay5 x0 x4 x5 x2 x6 x7) cols (k0_pay6 x1) 0#32 x8) x2 (constant S1024x2304 .f32 0x00000000#32) x3 x6 x7⟩,
      ⟨r0_6, k0_pay8 x1 (k0_pay5 x0 x4 x5 x2 x6 x7) cols (k0_pay6 x1) 0#32⟩] := by
  unfold_out out0_9
  rw [View.ld_unit_zero zeros, View.ld_unit_zero zeros, View.ld_unit_zero zeros, View.ld_unit_zero zeros, View.ld_unit_zero zeros,
    View.ld_unit_zero zeros, View.ld_unit_zero zeros, View.ld_unit_zero zeros, View.ld_unit_zero zeros, pay1_eq]
  rfl

include hv

/-- Column 0 of the block is the first pick. -/
theorem out_first : out0_9 x0 x1 x2 x3 x4 x5 x6 x7 x8 (ix2 r 0) = Row.col (rowIn x0 x1 x2 x3 x4 x5 x6 x7 x8 r).i1 := by
  rw [out_eq, canon_first]
  exact i1_at x0 x1 x2 x3 x4 x5 x6 x7 x8 r hv

/-- Column 1 of the block is the second pick. -/
theorem out_second : out0_9 x0 x1 x2 x3 x4 x5 x6 x7 x8 (ix2 r 1) = Row.col (rowIn x0 x1 x2 x3 x4 x5 x6 x7 x8 r).i2 := by
  rw [out_eq, canon_second]
  exact i2_at x0 x1 x2 x3 x4 x5 x6 x7 x8 r hv

end Cert.KernelIdeal.Block

end
-- ==== Proof.Picks.lean ====
/-
  The kernel's run: the array of picks after the region, and the result after the last host lines.
-/
module

public import proofs.«01_k».proof.Proof.BlockOut
public import Idealize.ShloMosaic.Lib.StableHlo.ReadAt

@[expose] public section

set_option maxRecDepth 16384

noncomputable section

namespace Cert.KernelIdeal.Picks

open Cert.KernelIdeal.Block Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- Row `b`'s inputs, off the launch memory's argument arrays. -/
def rowOf (b : Fin 8192) : Row.Inp :=
  Row.inp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) b

/-- The region finds the input bias as one row. -/
theorem entry_v0 (n : Fin 2304) : V m c main_v0 (ix2 0 n) = m ((c : Thread nD τ).loc main_arg4) (ix1 n) := by
  show StableHlo.after hostOps0 (fun b => m (c, b)) (Proc.devRef .tc main_v0) (ix2 0 n) = _
  unfold hostOps0
  after_reads_at

/-- The region finds the state bias as one row. -/
theorem entry_v1 (n : Fin 2304) : V m c main_v1 (ix2 0 n) = m ((c : Thread nD τ).loc main_arg5) (ix1 n) := by
  show StableHlo.after hostOps0 (fun b => m (c, b)) (Proc.devRef .tc main_v1) (ix2 0 n) = _
  unfold hostOps0
  after_reads_at

/-- The region finds the head bias as one row. -/
theorem entry_v2 (n : Fin 154) : V m c main_v2 (ix2 0 n) = m ((c : Thread nD τ).loc main_arg7) (ix1 n) := by
  show StableHlo.after hostOps0 (fun b => m (c, b)) (Proc.devRef .tc main_v2) (ix2 0 n) = _
  unfold hostOps0
  after_reads_at

/-- The region finds the mask as bytes. -/
theorem entry_v5 (b : Fin 8192) (k : Fin 154) : V m c main_v5 (ix2 b k)
    = BitVec.setWidth 8 (IntOp.cmpi CmpIPredicate.ne (m ((c : Thread nD τ).loc main_arg1) (ix2 b k)) 0#32) := by
  show StableHlo.after hostOps0 (fun b => m (c, b)) (Proc.devRef .tc main_v5) (ix2 b k) = _
  unfold hostOps0
  after_reads_at

/-- The mask byte the region reads: 1 where the mask word is not zero. -/
theorem entry_mask (b : Fin 8192) (k : Fin 154) :
    V m c main_v5 (ix2 b k) = if m ((c : Thread nD τ).loc main_arg1) (ix2 b k) = 0#32 then 0#8 else 1#8 := by
  rw [entry_v5, WordCmp.cmpi_ne_eq]
  by_cases h : m ((c : Thread nD τ).loc main_arg1) (ix2 b k) = 0#32 <;> simp [h]

/-- The index maps: the row-tiled windows are at row block `t`, the rest at the origin. -/
theorem idx (t : Fin cfg0.N) :
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = t.val ∧ win0_9.index t 1 = 0) := by
  rcases fin_N0 t with rfl | rfl | rfl | rfl | rfl | rfl | rfl | rfl <;> decide +kernel

/-- Row `r` of block `t` in the whole array. -/
def rowAt (t : Fin cfg0.N) (r : Fin 1024) : Fin 8192 := ⟨t.val * 1024 + r.val, by
  have h : t.val < 8 := lt_of_lt_of_eq t.isLt N_0
  have := r.isLt
  omega⟩

/-- Block `t` of the embeddings is its 1024 rows. -/
theorem blk0 (t : Fin cfg0.N) (r : Fin 1024) (k : Fin 768) : iblk m c 0 t (ix2 r k) = m ((c : Thread nD τ).loc main_arg0) (ix2 (rowAt t r) k) := by
  unfold rowAt
  blk_ext [iblk, V_main_arg0, idx t]
/-- Block `t` of the mask is its 1024 rows. -/
theorem blk1 (t : Fin cfg0.N) (r : Fin 1024) (k : Fin 154) : iblk m c 1 t (ix2 r k) = V m c main_v5 (ix2 (rowAt t r) k) := by
  unfold rowAt
  blk_ext [iblk, idx t]
/-- Every block of `W_ih` is the whole array. -/
theorem blk2 (t : Fin cfg0.N) (n : Fin 2304) (k : Fin 768) : iblk m c 2 t (ix2 n k) = m ((c : Thread nD τ).loc main_arg2) (ix2 n k) := by
  blk_ext [iblk, V_main_arg2, idx t]
/-- Every block of `W_hh` is the whole array. -/
theorem blk3 (t : Fin cfg0.N) (n : Fin 2304) (k : Fin 768) : iblk m c 3 t (ix2 n k) = m ((c : Thread nD τ).loc main_arg3) (ix2 n k) := by
  blk_ext [iblk, V_main_arg3, idx t]
/-- Every block of the input bias is the whole row. -/
theorem blk4 (t : Fin cfg0.N) (n : Fin 2304) : iblk m c 4 t (ix2 0 n) = V m c main_v0 (ix2 0 n) := by
  blk_ext [iblk, idx t]
/-- Every block of the state bias is the whole row. -/
theorem blk5 (t : Fin cfg0.N) (n : Fin 2304) : iblk m c 5 t (ix2 0 n) = V m c main_v1 (ix2 0 n) := by
  blk_ext [iblk, idx t]
/-- Every block of `W_head` is the whole array. -/
theorem blk6 (t : Fin cfg0.N) (n : Fin 154) (k : Fin 768) : iblk m c 6 t (ix2 n k) = m ((c : Thread nD τ).loc main_arg6) (ix2 n k) := by
  blk_ext [iblk, V_main_arg6, idx t]
/-- Every block of the head bias is the whole row. -/
theorem blk7 (t : Fin cfg0.N) (n : Fin 154) : iblk m c 7 t (ix2 0 n) = V m c main_v2 (ix2 0 n) := by
  blk_ext [iblk, idx t]
/-- Every block of the atom embedding is the whole array. -/
theorem blk8 (t : Fin cfg0.N) (n : Fin 154) (k : Fin 768) : iblk m c 8 t (ix2 n k) = m ((c : Thread nD τ).loc main_arg8) (ix2 n k) := by
  blk_ext [iblk, V_main_arg8, idx t]

/-- The mask bytes of a block are 0 or 1. -/
theorem blk1_bit (t : Fin cfg0.N) (r : Fin 1024) (k : Fin 154) : iblk m c 1 t (ix2 r k) = 0#8 ∨ iblk m c 1 t (ix2 r k) = 1#8 := by
  rw [blk1, entry_mask]
  split
  · exact Or.inl rfl
  · exact Or.inr rfl

/-- A block row's inputs are the array row's. -/
theorem rowIn_eq (t : Fin cfg0.N) (r : Fin 1024) :
    rowIn (iblk m c 0 t) (iblk m c 1 t) (iblk m c 2 t) (iblk m c 3 t) (iblk m c 4 t) (iblk m c 5 t) (iblk m c 6 t) (iblk m c 7 t) (iblk m c 8 t) r
      = rowOf m c (rowAt t r) := by
  have e1 : (fun k => iblk m c 1 t (ix2 r k) ≠ 0#8) = fun k => m ((c : Thread nD τ).loc main_arg1) (ix2 (rowAt t r) k) ≠ 0#32 := by
    funext k
    rw [blk1, entry_mask]
    by_cases h : m ((c : Thread nD τ).loc main_arg1) (ix2 (rowAt t r) k) = 0#32
    · simp [h]
    · simp only [h, if_false, ne_eq, not_false_eq_true]
      exact propext ⟨fun _ => trivial, fun _ e => absurd e (by decide : ¬ (1#8 : BitVec 8) = 0#8)⟩
  have e4 : (fun n => iblk m c 4 t (ix2 0 n)) = fun n => m ((c : Thread nD τ).loc main_arg4) (ix1 n) :=
    funext fun n => (blk4 m c t n).trans (entry_v0 m c n)
  have e5 : (fun n => iblk m c 5 t (ix2 0 n)) = fun n => m ((c : Thread nD τ).loc main_arg5) (ix1 n) :=
    funext fun n => (blk5 m c t n).trans (entry_v1 m c n)
  have e7 : (fun n => iblk m c 7 t (ix2 0 n)) = fun n => m ((c : Thread nD τ).loc main_arg7) (ix1 n) :=
    funext fun n => (blk7 m c t n).trans (entry_v2 m c n)
  unfold rowIn rowOf Row.inp
  rw [e1, e4, e5, e7, funext (blk0 m c t r), funext fun n => funext (blk2 m c t n), funext fun n => funext (blk3 m c t n),
    funext fun n => funext (blk6 m c t n), funext fun n => funext (blk8 m c t n)]

/-- The array of picks: column 0 the first, column 1 the second. -/
def picks (i : S8192x2.Idx) : BitVec 32 :=
  Row.col (if (i 1 : Nat) = 0 then (rowOf m c (i 0)).i1 else (rowOf m c (i 0)).i2)

/-- Where block `t`'s element lies in the array of picks. -/
theorem emb9 (t : Fin cfg0.N) (r : Fin 1024) (s : Fin 2) : ((win0_9.blk t).view.emb (ix2 r s) : S8192x2.Idx) = ix2 (rowAt t r) s := by
  unfold rowAt
  blk_ext [idx t]

/-- The region leaves the array of picks. -/
theorem final : (dats m 0 c).arrAt 9 cfg0.N = picks m c := by
  refine (dats m 0 c).arrAt_eq_of_covers 9 _ (by decide +kernel) fun t _ y => ?_
  blk_simp
  rw [after0_9]
  obtain ⟨r, s, rfl⟩ : ∃ (r : Fin 1024) (s : Fin 2), y = ix2 r s := ⟨_, _, eq_ix2 (n0 := 1024) (n1 := 2) y⟩
  refine Eq.trans ?_ (congrArg (picks m c) (emb9 t r s)).symm
  by_cases h : s = 0
  · subst h
    rw [out_first _ _ _ _ _ _ _ _ _ r (blk1_bit m c t r), rowIn_eq]
    rfl
  · obtain rfl : s = 1 := by omega
    rw [out_second _ _ _ _ _ _ _ _ _ r (blk1_bit m c t r), rowIn_eq]
    rfl

set_option maxHeartbeats 1000000 in
/-- The last host lines turn the array of picks into one-hot rows. -/
theorem tail_at (W : Valuation τ sig (Elt Ideal)) (b : Fin 8192) (s : Fin 2) (k : Fin 154) (i : Fin 154)
    (h : W (Proc.devRef .tc main_v6) (ix2 b s) = Row.col i) :
    StableHlo.after hostOps1 W (Proc.devRef .tc main_v12) (ix3 b s k) = Row.hot i k := by
  unfold hostOps1
  after_reads_at
  rw [h]
  exact Row.hot_word i k

/-- The result buffer after the last host lines. -/
theorem tail_eq : Pipeline.afterTail₀ cfgs (dats m) 0 (V0 m) [hostOps1] c main_v12 = Row.result (rowOf m c) := by
  funext i
  obtain ⟨b, s, k, rfl⟩ : ∃ (b : Fin 8192) (s : Fin 2) (k : Fin 154), i = ix3 b s k := ⟨_, _, _, eq_ix3 i⟩
  unfold Pipeline.afterTail₀
  refine tail_at _ b s k (if s.val = 0 then (rowOf m c b).i1 else (rowOf m c b).i2) ?_
  have e := Pipeline.withArrays_arr spec0 (by decide) c (V0 m c) (fun w => (dats m 0 c).arrAt w cfg0.N) 9
  exact (congrFun e (ix2 b s)).trans (congrFun (final m c) (ix2 b s))

/-- The run: the result buffer at the row-by-row specification, the arguments unchanged. -/
theorem run : θ_run defs (onTc (τ := τ) (main (F := Ideal))) ⟨m, fun _ => 0, ρ⟩ (fun r => ∀ c : Dev nD,
    r.2.mem ((c.tc : Thread nD τ).loc main_v12) = Row.result (rowOf m c)) :=
  (θ_run defs _ _).mono (fun _ h c => ((h c).2 main_v12 (Pipeline.mem_restRefs_of main_v12 (by decide) (by decide))).trans (tail_eq m c))
    (run_main m ρ)

end Cert.KernelIdeal.Picks

end
-- ==== Proof.RefCell.lean ====
/-
  The reference's recurrent cell and head, both steps, read at a row and a column.
-/
module

public import proofs.«01_k».proof.Proof.Spec
public import proofs.«01_k».proof.Proof.RefLine
public import Idealize.ShloMosaic.Lib.StableHlo.ReadAt
public import Idealize.ShloMosaic.Lib.Pointwise

@[expose] public section

set_option maxRecDepth 16384

noncomputable section

namespace Cert.ReferenceIdeal.Line

open Idealize.ShloMosaic Idealize.ShloMosaic.TcCoe Idealize.SL.Sem Cert.ReferenceIdeal Cert.ReferenceIdeal.Gen

variable (V : Valuation τ sig (Elt Ideal))

set_option maxHeartbeats 2000000 in
/-- The first step's state: the zero state contributes nothing. -/
theorem cell1_at (b : Fin 8192) (j : Fin 768) :
    StableHlo.after opsCell1 V (Proc.devRef .tc main_v38) (ix2 b j)
      = Row.cell0 (Row.lin (fun k => V (Proc.devRef .tc main_arg0) (ix2 b k)) (fun n k => V (Proc.devRef .tc main_arg2) (ix2 n k))
          (fun n => V (Proc.devRef .tc main_arg4) (ix1 n))) (fun n => V (Proc.devRef .tc main_arg5) (ix1 n)) j := by
  unfold opsCell1
  after_reads_at
  simp only [zero_mul, Finset.sum_const_zero, zero_add, mul_zero, add_zero]
  rfl

set_option maxHeartbeats 2000000 in
/-- The first step's head. -/
theorem score1_at (b : Fin 8192) (c : Fin 154) :
    StableHlo.after opsScore1 V (Proc.devRef .tc main_v43) (ix2 b c)
      = Row.lin (fun k => V (Proc.devRef .tc main_v38) (ix2 b k)) (fun n k => V (Proc.devRef .tc main_arg6) (ix2 n k))
          (fun n => V (Proc.devRef .tc main_arg7) (ix1 n)) c := by
  unfold opsScore1
  after_reads_at
  rfl

set_option maxHeartbeats 2000000 in
/-- The second step's input: the embedding moved by the first step's probabilities. -/
theorem next_at (b : Fin 8192) (k : Fin 768) :
    StableHlo.after opsNext V (Proc.devRef .tc main_v89) (ix2 b k)
      = Row.move (fun k => V (Proc.devRef .tc main_arg0) (ix2 b k)) (fun c => V (Proc.devRef .tc main_v69) (ix2 b c))
          (fun c k => V (Proc.devRef .tc main_arg8) (ix2 c k)) k := by
  unfold opsNext
  after_reads_at
  rfl

set_option maxHeartbeats 2000000 in
/-- The second step's state. -/
theorem cell2_at (b : Fin 8192) (j : Fin 768) :
    StableHlo.after (opsGates2 ++ opsCell2) V (Proc.devRef .tc main_v127) (ix2 b j)
      = Row.cell (Row.lin (fun k => V (Proc.devRef .tc main_v89) (ix2 b k)) (fun n k => V (Proc.devRef .tc main_arg2) (ix2 n k))
          (fun n => V (Proc.devRef .tc main_arg4) (ix1 n)))
          (Row.lin (fun k => V (Proc.devRef .tc main_v38) (ix2 b k)) (fun n k => V (Proc.devRef .tc main_arg3) (ix2 n k))
          (fun n => V (Proc.devRef .tc main_arg5) (ix1 n))) (fun k => V (Proc.devRef .tc main_v38) (ix2 b k)) j := by
  unfold opsGates2 opsCell2
  after_reads_at
  rfl

set_option maxHeartbeats 2000000 in
/-- The second step's head. -/
theorem score2_at (b : Fin 8192) (c : Fin 154) :
    StableHlo.after opsScore2 V (Proc.devRef .tc main_v132) (ix2 b c)
      = Row.lin (fun k => V (Proc.devRef .tc main_v127) (ix2 b k)) (fun n k => V (Proc.devRef .tc main_arg6) (ix2 n k))
          (fun n => V (Proc.devRef .tc main_arg7) (ix1 n)) c := by
  unfold opsScore2
  after_reads_at
  rfl

end Cert.ReferenceIdeal.Line

end
-- ==== Proof.Argmax.lean ====
/-
  The reference's argmax along a row: the first column that attains the row's maximum.
-/
module

public import proofs.«01_k».proof.Proof.Spec
public import proofs.«01_k».proof.ReferenceIdeal
public import Idealize.ShloMosaic.PureOps.Reduce
public import Idealize.ShloMosaic.PureOps.Ideal.Laws
public import Idealize.ShloMosaic.Lib.WordCmp

@[expose] public section

noncomputable section

namespace Cert.Row

open Idealize.ShloMosaic Cert.ReferenceIdeal

/-- `p` is beaten or matched by `q`: a lesser value, or the same value and no earlier place. -/
def Below (p q : EReal × BitVec 32) : Prop := p.1 < q.1 ∨ (p.1 = q.1 ∧ q.2.toInt ≤ p.2.toInt)

/-- The order of pairs is reflexive. -/
theorem Below.refl (p : EReal × BitVec 32) : Below p p := Or.inr ⟨rfl, le_refl _⟩

/-- The order of pairs is transitive. -/
theorem Below.trans {p q r : EReal × BitVec 32} (h : Below p q) (k : Below q r) : Below p r := by
  rcases h with h | ⟨h, h'⟩ <;> rcases k with k | ⟨k, k'⟩
  · exact Or.inl (h.trans k)
  · exact Or.inl (k ▸ h)
  · exact Or.inl (h.symm ▸ k)
  · exact Or.inr ⟨h.trans k, k'.trans h'⟩

/-- The body of the arg-max returns one of its two pairs, and both are below it. -/
theorem body_spec (a b : EReal × BitVec 32) :
    (reducer_argmax_f32_i32 (F := Ideal) a b = a ∨ reducer_argmax_f32_i32 (F := Ideal) a b = b)
      ∧ Below a (reducer_argmax_f32_i32 (F := Ideal) a b) ∧ Below b (reducer_argmax_f32_i32 (F := Ideal) a b) := by
  obtain ⟨x, i⟩ := a
  obtain ⟨y, j⟩ := b
  have key : reducer_argmax_f32_i32 (F := Ideal) (x, i) (y, j)
      = (if y < x then x else y, if y < x ∨ (x = y ∧ i.toInt < j.toInt) then i else j) := by
    simp only [reducer_argmax_f32_i32, Ideal.cmpf_def, Ideal.cmp, WordCmp.cmpi_slt_eq]
    by_cases h1 : y < x
    · have h2 : x ≠ y := ne_of_gt h1
      simp [h1, h2, Scalar.select, IntOp.ori, IntOp.andi]
    · by_cases h2 : x = y <;> by_cases h3 : i.toInt < j.toInt <;> simp [h1, h2, h3, Scalar.select, IntOp.ori, IntOp.andi]
  rw [key]
  rcases lt_trichotomy x y with h | h | h
  · have h1 : ¬ y < x := not_lt.mpr h.le
    have h2 : x ≠ y := h.ne
    simp only [h1, h2, if_false, false_and, or_self]
    exact ⟨by simp, Or.inl h, Below.refl _⟩
  · subst h
    by_cases h3 : i.toInt < j.toInt
    · simp only [lt_self_iff_false, if_false, h3, and_self, or_true, if_true]
      exact ⟨by simp, Below.refl _, Or.inr ⟨rfl, h3.le⟩⟩
    · simp only [lt_self_iff_false, if_false, h3, and_false, or_self]
      exact ⟨by simp, Or.inr ⟨rfl, not_lt.mp h3⟩, Below.refl _⟩
  · simp only [h, if_true, true_or]
    exact ⟨by simp, Below.refl _, Or.inl h⟩

/-- The fold of that body over a list returns the start or one of the list, and all are below it. -/
theorem fold_spec (L : List (EReal × BitVec 32)) (a : EReal × BitVec 32) :
    (L.foldl (reducer_argmax_f32_i32 (F := Ideal)) a = a ∨ L.foldl (reducer_argmax_f32_i32 (F := Ideal)) a ∈ L)
      ∧ Below a (L.foldl (reducer_argmax_f32_i32 (F := Ideal)) a)
      ∧ ∀ p ∈ L, Below p (L.foldl (reducer_argmax_f32_i32 (F := Ideal)) a) := by
  induction L generalizing a with
  | nil => exact ⟨Or.inl rfl, Below.refl _, fun p h => nomatch h⟩
  | cons b L ih =>
    obtain ⟨h1, h2, h3⟩ := ih (reducer_argmax_f32_i32 (F := Ideal) a b)
    obtain ⟨k1, k2, k3⟩ := body_spec a b
    rw [List.foldl_cons]
    refine ⟨?_, k2.trans h2, ?_⟩
    · rcases h1 with h1 | h1
      · rw [h1]
        rcases k1 with k1 | k1
        · exact Or.inl k1
        · exact Or.inr (by rw [k1]; exact List.mem_cons_self)
      · exact Or.inr (List.mem_cons_of_mem _ h1)
    · intro p hp
      rcases List.mem_cons.mp hp with rfl | hp
      · exact k3.trans h2
      · exact h3 p hp

/-- A place on the row as a word, read signed. -/
theorem place_toInt (c : Fin 154) : (BitVec.ofNat 32 c.val).toInt = (c.val : Int) := by
  have := c.isLt
  rw [BitVec.toInt_eq_toNat_of_lt] <;> rw [BitVec.toNat_ofNat, Nat.mod_eq_of_lt (by omega)]
  omega

/-- Over the pairs of a row, from `(-∞, 0)`, the fold's place is the row's pick. -/
theorem fold_pick (l : Fin 154 → EReal) (L : List (EReal × BitVec 32))
    (hL : ∀ p, p ∈ L ↔ ∃ c : Fin 154, p = (l c, BitVec.ofNat 32 c.val)) :
    (L.foldl (reducer_argmax_f32_i32 (F := Ideal)) (⊥, 0#32)).2 = BitVec.ofNat 32 (pick l).val := by
  obtain ⟨h1, h2, h3⟩ := fold_spec L (⊥, 0#32)
  generalize L.foldl (reducer_argmax_f32_i32 (F := Ideal)) (⊥, 0#32) = r at h1 h2 h3
  have hb : ∀ c : Fin 154, Below (l c, BitVec.ofNat 32 c.val) r := fun c => h3 _ ((hL _).mpr ⟨c, rfl⟩)
  have hr : ∃ i : Fin 154, r = (l i, BitVec.ofNat 32 i.val) := by
    rcases h1 with h1 | h1
    · refine ⟨0, ?_⟩
      rcases hb 0 with h | h
      · rw [h1] at h
        exact absurd h not_lt_bot
      · rw [h1] at h ⊢
        rw [show l 0 = ⊥ from h.1]
        rfl
    · exact (hL r).mp h1
  obtain ⟨i, rfl⟩ := hr
  have hf : IsFirst l i := by
    refine ⟨fun c => ?_, fun c hc => ?_⟩
    · rcases hb c with h | h
      · exact le_of_lt h
      · exact le_of_eq h.1
    · rcases hb c with h | h
      · exact h
      · have h' := h.2
        rw [place_toInt, place_toInt] at h'
        exact absurd hc (by rw [Fin.lt_def]; omega)
  rw [hf.eq_pick]

/-- The row's fiber: its pairs, column by column. -/
theorem mem_fiber (h : S8192x154.ReducesTo [1] S8192) {x : S8192x154.Idx → EReal} {y : S8192x154.Idx → BitVec 32} (b : Fin 8192) (p : EReal × BitVec 32) :
    p ∈ Host.argReduceFiber x y h (ix1 b) ↔ ∃ c : Fin 154, p = (x (ix2 b c), y (ix2 b c)) := by
  have hd : ∀ (r : Fin 8192) (c : Fin 154), h.drop (ix2 r c) = ix1 r := by
    intro r c
    funext a
    match a with
    | ⟨0, _⟩ =>
      exact Fin.ext (h.drop_apply_val_of_eq (ix2 r c) 0 0)
  unfold Host.argReduceFiber
  rw [List.mem_map]
  constructor
  · rintro ⟨n, hn, rfl⟩
    have hn' := (List.mem_filter.mp hn).2
    obtain ⟨r, c, hrc⟩ : ∃ (r : Fin 8192) (c : Fin 154), S8192x154.rowMajor.symm n = ix2 r c := ⟨_, _, eq_ix2 _⟩
    rw [hrc] at hn' ⊢
    rw [hd] at hn'
    have : r = b := congrFun (of_decide_eq_true hn') 0
    exact ⟨c, by rw [this]⟩
  · rintro ⟨c, rfl⟩
    refine ⟨S8192x154.rowMajor (ix2 b c), List.mem_filter.mpr ⟨List.mem_finRange _, ?_⟩, ?_⟩
    · rw [Equiv.symm_apply_apply, hd]
      exact decide_eq_true rfl
    · rw [Equiv.symm_apply_apply]

/-- The reference's argmax of an array, at a row. -/
theorem argmax_at (h : S8192x154.ReducesTo [1] S8192) (hu : 0 < S_.numel) (x : S8192x154.Idx → EReal) (b : Fin 8192) :
    (Host.argReduce (F := Ideal) (φ := .f32) (reducer_argmax_f32_i32 (F := Ideal)) x (iotaInDim S8192x154 32 1) (constant S_ FTy.f32 4286578688#32)
        (constantI S_ 32 0#32) h hu (ix1 b)).2 = BitVec.ofNat 32 (pick (fun c => x (ix2 b c))).val := by
  rw [Ideal.argReduce_eq_reduce2, Host.reduce2_eq_foldl_fiber]
  have e : (constant (F := Ideal) S_ FTy.f32 4286578688#32 (Shape.Idx.first hu), constantI S_ 32 0#32 (Shape.Idx.first hu)) = ((⊥ : EReal), 0#32) := by
    refine Prod.ext ?_ rfl
    exact neg_inf
  rw [e]
  exact fold_pick (fun c => x (ix2 b c)) _ fun p => mem_fiber h b p

end Cert.Row

end
-- ==== Proof.Scatter.lean ====
/-
  A scatter of one word per row, each row's column given by an index pair `(row, column)`.
-/
module

public import Idealize.ShloMosaic.Lib.Routing.OpsPair
public import Idealize.ShloMosaic.Lib.Routing.OpsSet

@[expose] public section

namespace Cert.Row

open Idealize.ShloMosaic Idealize.ShloMosaic.ValueIdx Idealize.ShloMosaic.Routing

/-- Update `a` lands at `(r, c)` exactly when its two index words, read signed, are `r` and `c`. -/
theorem lands_pair {R C A w : Nat} (d : ScatterDims (shape2 R C) (shape2 A 2) (shape1 A)) (hiw : d.insertedWindowDims = [0, 1])
    (hsd : d.scatterDimsToOperandDims = [0, 1]) (hivd : d.indexVectorDim = 1) (idx : IVec (shape2 A 2) w)
    (a : Fin A) (r : Fin R) (c : Fin C) :
    d.resultIdx? (ix1 a) idx = some (ix2 r c) ↔ (idx (ix2 a 0)).toInt = r.val ∧ (idx (ix2 a 1)).toInt = c.val := by
  have huw : d.updateWindowDims = [] := List.eq_nil_of_length_eq_zero (by
    rw [d.window_length]
    show ((shape2 R C).kept d.insertedWindowDims).length = 0
    rw [hiw]
    rfl)
  have hm : ∀ q : Fin 2, q ∈ d.scatterDimsToOperandDims := fun q => by rw [hsd]; fin_cases q <;> simp
  have hwin : ∀ q : Fin 2, d.window (ix1 a) q = 0 := fun q => by
    unfold ScatterDims.window
    rw [dif_neg fun h => (of_decide_eq_true (List.mem_filter.1 h).2) (by rw [hiw]; fin_cases q <;> simp)]
  have hsi : ∀ q : Fin 2, d.siIdx (ix1 a) ⟨d.scatterDimsToOperandDims.idxOf q, List.idxOf_lt_length_iff.2 (hm q)⟩ = ix2 a q := fun q => by
    funext p
    apply Fin.ext
    match p with
    | ⟨0, _⟩ =>
      have one : ∀ X : Fin 1, (ix1 a X).val = a.val := fun X => by
        obtain rfl : X = 0 := Subsingleton.elim _ _
        rfl
      unfold ScatterDims.siIdx
      rw [dif_neg (by rw [hivd]; exact (by decide : (0 : ℕ) ≠ 1))]
      unfold ScatterDims.siCoord
      exact one _
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 a) idx q = (idx (ix2 a q)).toInt := fun q => by
    unfold ScatterDims.start
    rw [dif_pos (hm q), hsi]
  rw [resultIdx?_ix2, hstart, hstart, hwin, hwin]
  omega

/-- Where the first index word of update `a` is its own row: row `r` holds update `r` at the column its second word names, the operand elsewhere. -/
theorem scatter_own_row {α : Type} {R C w : Nat} (d : ScatterDims (shape2 R C) (shape2 R 2) (shape1 R)) (hiw : d.insertedWindowDims = [0, 1])
    (hsd : d.scatterDimsToOperandDims = [0, 1]) (hivd : d.indexVectorDim = 1) (x0 : (shape2 R C).Idx → α) (idx : IVec (shape2 R 2) w)
    (upd : (shape1 R).Idx → α) (hrow : ∀ a : Fin R, (idx (ix2 a 0)).toInt = (a.val : Int)) (r : Fin R) (c : Fin C) :
    Host.scatter d (fun _ b => b) x0 idx upd (ix2 r c) = if (idx (ix2 r 1)).toInt = (c.val : Int) then upd (ix1 r) else x0 (ix2 r c) := by
  have lands : ∀ j : (shape1 R).Idx, d.resultIdx? j idx = some (ix2 r c) → j = ix1 r ∧ (idx (ix2 r 1)).toInt = (c.val : Int) := by
    intro j hj
    obtain ⟨a, rfl⟩ : ∃ a : Fin R, j = ix1 a := ⟨_, eq_ix1 j⟩
    have h := (lands_pair d hiw hsd hivd idx a r c).1 hj
    have e : a = r := Fin.ext (by have := h.1; rw [hrow] at this; omega)
    subst e
    exact ⟨rfl, h.2⟩
  by_cases h : (idx (ix2 r 1)).toInt = (c.val : Int)
  · rw [if_pos h]
    exact scatter_set_hit d x0 idx upd _ _ (fun j hj => congrArg upd (lands j hj).1) (ix1 r)
      ((lands_pair d hiw hsd hivd idx r r c).2 ⟨hrow r, h⟩)
  · rw [if_neg h]
    exact scatter_set_miss d x0 idx upd _ fun j hj => h (lands j hj).2

end Cert.Row
-- ==== Proof.RefMask.lean ====
/-
  The reference's mask words, read at a row and a column.
-/
module

public import proofs.«01_k».proof.Proof.Argmax
public import proofs.«01_k».proof.Proof.Words
public import proofs.«01_k».proof.Proof.Real
public import proofs.«01_k».proof.Proof.Scatter
public import proofs.«01_k».proof.Proof.RefLine
public import Idealize.ShloMosaic.Lib.Routing.OpsOne
public import Idealize.ShloMosaic.Lib.StableHlo.ReadAt
public import Idealize.ShloMosaic.Lib.Pointwise

@[expose] public section

set_option maxRecDepth 16384

noncomputable section

namespace Cert.ReferenceIdeal.Line

open Idealize.ShloMosaic Idealize.ShloMosaic.TcCoe Idealize.SL.Sem Cert.ReferenceIdeal Cert.ReferenceIdeal.Gen

variable (V : Valuation τ sig (Elt Ideal))

set_option maxHeartbeats 2000000 in
/-- The word for column 0: 1 where the row's mask sums to zero, else its own. -/
theorem flag1_at (b : Fin 8192) :
    StableHlo.after opsFlag1 V (Proc.devRef .tc main_v49) (ix1 b)
      = if Finset.univ.fold IntOp.addi 0#32 (fun c => V (Proc.devRef .tc main_arg1) (ix2 b c)) = 0#32 then 1#32
        else V (Proc.devRef .tc main_arg1) (ix2 b 0) := by
  unfold opsFlag1
  after_reads_at
  rw [WordCmp.cmpi_eq_eq, WordCmp.select_decide]
  rfl

set_option maxHeartbeats 2000000 in
/-- The column that word is set at: 0. -/
theorem flag1_place : StableHlo.after opsFlag1 V (Proc.devRef .tc main_c_7) ix0 = 0#32 := by
  unfold opsFlag1
  after_reads_at

set_option maxHeartbeats 2000000 in
/-- The first step's mask: column 0 set, the others the row's own. -/
theorem mask1_at (h0 : V (Proc.devRef .tc main_c_7) ix0 = 0#32) (b : Fin 8192) (c : Fin 154) :
    StableHlo.after opsMask1 V (Proc.devRef .tc main_v51) (ix2 b c)
      = if c = 0 then V (Proc.devRef .tc main_v49) (ix1 b) else V (Proc.devRef .tc main_arg1) (ix2 b c) := by
  unfold opsMask1
  after_reads_at
  refine Routing.scatter_col_signed _ rfl rfl _ _ _ 0 ?_ b c
  have e : broadcastInDim S1 ![] bcast_S_S1 (V (Proc.devRef .tc main_c_7)) (ix1 0) = 0#32 := by
    pointwise
    exact h0
  exact congrArg BitVec.toInt e

set_option maxHeartbeats 2000000 in
/-- The rows' numbers. -/
theorem wrap1_row (b : Fin 8192) : StableHlo.after opsWrap1 V (Proc.devRef .tc main_v82) (ix2 b 0) = BitVec.ofNat 32 b.val := by
  unfold opsWrap1
  after_reads_at
  refine Routing.wrap_of_lt _ _ ?_
  have := b.isLt
  rw [BitVec.toNat_ofNat, Nat.mod_eq_of_lt (by omega)]
  omega

set_option maxHeartbeats 2000000 in
/-- The rows' picked columns. -/
theorem wrap1_col {b : Fin 8192} {i : Fin 154} (h : V (Proc.devRef .tc main_v70) (ix1 b) = Row.col i) :
    StableHlo.after opsWrap1 V (Proc.devRef .tc main_v83) (ix2 b 0) = Row.col i := by
  unfold opsWrap1
  after_reads_at
  rw [h]
  refine Routing.wrap_of_lt _ _ ?_
  have := i.isLt
  rw [Row.col_toNat]
  omega

set_option maxHeartbeats 2000000 in
/-- The picked column of each row is closed. -/
theorem clear1_at (hrow : ∀ a : Fin 8192, V (Proc.devRef .tc main_v82) (ix2 a 0) = BitVec.ofNat 32 a.val) {b : Fin 8192} {i : Fin 154}
    (h : V (Proc.devRef .tc main_v83) (ix2 b 0) = Row.col i) (c : Fin 154) :
    StableHlo.after opsClear1 V (Proc.devRef .tc main_v86) (ix2 b c)
      = if c = i then 0#32 else V (Proc.devRef .tc main_v51) (ix2 b c) := by
  unfold opsClear1
  after_reads_at
  have e0 : ∀ a : Fin 8192, concatenate S8192x2 1 [⟨S8192x1, V (Proc.devRef .tc main_v82)⟩, ⟨S8192x1, V (Proc.devRef .tc main_v83)⟩]
      concatenates_S8192x1_S8192x1_S8192x2_d1 (ix2 a 0) = V (Proc.devRef .tc main_v82) (ix2 a 0) := fun a => by pointwise
  have e1 : ∀ a : Fin 8192, concatenate S8192x2 1 [⟨S8192x1, V (Proc.devRef .tc main_v82)⟩, ⟨S8192x1, V (Proc.devRef .tc main_v83)⟩]
      concatenates_S8192x1_S8192x1_S8192x2_d1 (ix2 a 1) = V (Proc.devRef .tc main_v83) (ix2 a 0) := fun a => by pointwise
  have w : ∀ a : Fin 8192, (BitVec.ofNat 32 a.val).toInt = (a.val : Int) := fun a => by
    have := a.isLt
    rw [BitVec.toInt_eq_toNat_of_lt] <;> rw [BitVec.toNat_ofNat, Nat.mod_eq_of_lt (by omega)]
    omega
  refine (Row.scatter_own_row _ rfl rfl rfl _ _ _ (fun a => ?_) b c).trans ?_
  · exact (congrArg BitVec.toInt ((e0 a).trans (hrow a))).trans (w a)
  · have k : ((concatenate S8192x2 1 [⟨S8192x1, V (Proc.devRef .tc main_v82)⟩, ⟨S8192x1, V (Proc.devRef .tc main_v83)⟩]
        concatenates_S8192x1_S8192x1_S8192x2_d1 (ix2 b 1) : BitVec 32).toInt = (c.val : Int)) ↔ c = i := by
      rw [e1, h, Row.col_toInt, Fin.ext_iff]
      omega
    by_cases hc : c = i
    · rw [if_pos hc]
      exact if_pos (k.mpr hc)
    · rw [if_neg hc]
      exact if_neg fun e => hc (k.mp e)

set_option maxHeartbeats 2000000 in
/-- The second step's mask: all closed after a stop, column 0 open. -/
theorem mask2_at {b : Fin 8192} {i : Fin 154} (h : V (Proc.devRef .tc main_v87) (ix1 b) = Row.col i) (c : Fin 154) :
    StableHlo.after opsMask2 V (Proc.devRef .tc main_v139) (ix2 b c)
      = if c = 0 then 1#32 else if i = 0 then 0#32 else V (Proc.devRef .tc main_v86) (ix2 b c) := by
  unfold opsMask2
  after_reads_at
  refine (Routing.scatter_col_signed _ rfl rfl _ _ _ 0 rfl b c).trans ?_
  pointwise
  rw [h, WordCmp.cmpi_eq_eq, WordCmp.select_decide]
  simp only [Row.col_zero_iff]
  rfl

end Cert.ReferenceIdeal.Line

end
-- ==== Proof.RefPick.lean ====
/-
  The reference's logits and probabilities, and the stacked result, read at a row and a column.
-/
module

public import proofs.«01_k».proof.Proof.Argmax
public import proofs.«01_k».proof.Proof.Words
public import proofs.«01_k».proof.Proof.Real
public import proofs.«01_k».proof.Proof.Scatter
public import proofs.«01_k».proof.Proof.RefLine
public import Idealize.ShloMosaic.Lib.Routing.OpsOne
public import Idealize.ShloMosaic.Lib.StableHlo.ReadAt
public import Idealize.ShloMosaic.Lib.Pointwise

@[expose] public section

set_option maxRecDepth 16384

noncomputable section

namespace Cert.ReferenceIdeal.Line

open Idealize.ShloMosaic Idealize.ShloMosaic.TcCoe Idealize.SL.Sem Cert.ReferenceIdeal Cert.ReferenceIdeal.Gen

variable (V : Valuation τ sig (Elt Ideal))

set_option maxHeartbeats 2000000 in
/-- Step 1's logits: the head where the mask is open, `-∞` elsewhere. -/
theorem logit1_at (b : Fin 8192) (m : Fin 154 → Prop) (hm : ∀ c, V (Proc.devRef .tc main_v51) (ix2 b c) ≠ 0#32 ↔ m c) (c : Fin 154) :
    StableHlo.after opsLogit1 V (Proc.devRef .tc main_v54) (ix2 b c)
      = Row.masked m (fun c => V (Proc.devRef .tc main_v43) (ix2 b c)) c := by
  unfold opsLogit1
  after_reads_at
  rw [WordCmp.cmpi_ne_eq, WordCmp.select_decide]
  by_cases h : m c
  · rw [if_pos ((hm c).mpr h), Row.masked_of h]
  · rw [if_neg fun e => h ((hm c).mp e), Row.masked_of_not h]
    exact Row.neg_inf

set_option maxHeartbeats 2000000 in
/-- Step 1's probabilities: the softmax added and taken off again leaves the pick's row. -/
theorem prob1_at {b : Fin 8192} {i : Fin 154} (h : V (Proc.devRef .tc main_v66) (ix1 b) = Row.col i)
    (hs : ∀ c, Row.IsReal (V (Proc.devRef .tc main_v65) (ix2 b c))) (c : Fin 154) :
    StableHlo.after opsProb1 V (Proc.devRef .tc main_v69) (ix2 b c) = Row.hot i c := by
  unfold opsProb1
  after_reads_at
  rw [h]
  refine Eq.trans ?_ (Row.add_sub_self i c (hs c))
  rw [← Row.hot_word]
  rfl

set_option maxHeartbeats 2000000 in
/-- Step 2's logits: the head where the mask is open, `-∞` elsewhere. -/
theorem logit2_at (b : Fin 8192) (m : Fin 154 → Prop) (hm : ∀ c, V (Proc.devRef .tc main_v139) (ix2 b c) ≠ 0#32 ↔ m c) (c : Fin 154) :
    StableHlo.after opsLogit2 V (Proc.devRef .tc main_v142) (ix2 b c)
      = Row.masked m (fun c => V (Proc.devRef .tc main_v132) (ix2 b c)) c := by
  unfold opsLogit2
  after_reads_at
  rw [WordCmp.cmpi_ne_eq, WordCmp.select_decide]
  by_cases h : m c
  · rw [if_pos ((hm c).mpr h), Row.masked_of h]
  · rw [if_neg fun e => h ((hm c).mp e), Row.masked_of_not h]
    exact Row.neg_inf

set_option maxHeartbeats 2000000 in
/-- Step 2's probabilities: the softmax added and taken off again leaves the pick's row. -/
theorem prob2_at {b : Fin 8192} {i : Fin 154} (h : V (Proc.devRef .tc main_v154) (ix1 b) = Row.col i)
    (hs : ∀ c, Row.IsReal (V (Proc.devRef .tc main_v153) (ix2 b c))) (c : Fin 154) :
    StableHlo.after opsProb2 V (Proc.devRef .tc main_v157) (ix2 b c) = Row.hot i c := by
  unfold opsProb2
  after_reads_at
  rw [h]
  refine Eq.trans ?_ (Row.add_sub_self i c (hs c))
  rw [← Row.hot_word]
  rfl

set_option maxHeartbeats 2000000 in
/-- The result: the two steps' probabilities, one above the other. -/
theorem stack_at (b : Fin 8192) (s : Fin 2) (c : Fin 154) :
    StableHlo.after opsStack V (Proc.devRef .tc main_v180) (ix3 b s c)
      = if s.val < 1 then V (Proc.devRef .tc main_v69) (ix2 b c) else V (Proc.devRef .tc main_v157) (ix2 b c) := by
  unfold opsStack
  after_reads_at
  by_cases h : s.val < 1
  · rw [dif_pos h, if_pos h]
  · rw [dif_neg h, if_neg h]

end Cert.ReferenceIdeal.Line

end
-- ==== Proof.RefArg.lean ====
/-
  The reference's argmaxes, read at a row.
-/
module

public import proofs.«01_k».proof.Proof.Argmax
public import proofs.«01_k».proof.Proof.Words
public import proofs.«01_k».proof.Proof.Real
public import proofs.«01_k».proof.Proof.Scatter
public import proofs.«01_k».proof.Proof.RefLine
public import Idealize.ShloMosaic.Lib.Routing.OpsOne
public import Idealize.ShloMosaic.Lib.StableHlo.ReadAt
public import Idealize.ShloMosaic.Lib.Pointwise

@[expose] public section

set_option maxRecDepth 16384

noncomputable section

namespace Cert.ReferenceIdeal.Line

open Idealize.ShloMosaic Idealize.ShloMosaic.TcCoe Idealize.SL.Sem Cert.ReferenceIdeal Cert.ReferenceIdeal.Gen

variable (V : Valuation τ sig (Elt Ideal))

set_option maxHeartbeats 2000000 in
/-- Step 1's pick: the first greatest logit's column. -/
theorem pick1_at (b : Fin 8192) :
    StableHlo.after opsPick1 V (Proc.devRef .tc main_v66) (ix1 b)
      = Row.col (Row.pick fun c => V (Proc.devRef .tc main_v54) (ix2 b c)) := by
  unfold opsPick1
  after_reads_at
  exact Row.argmax_at _ _ _ b

set_option maxHeartbeats 2000000 in
/-- Step 2's pick: the first greatest logit's column. -/
theorem pick2_at (b : Fin 8192) :
    StableHlo.after opsPick2 V (Proc.devRef .tc main_v154) (ix1 b)
      = Row.col (Row.pick fun c => V (Proc.devRef .tc main_v142) (ix2 b c)) := by
  unfold opsPick2
  after_reads_at
  exact Row.argmax_at _ _ _ b

set_option maxHeartbeats 2000000 in
/-- The first greatest probability's column. -/
theorem top1_at (b : Fin 8192) :
    StableHlo.after opsTop1 V (Proc.devRef .tc main_v70) (ix1 b)
      = Row.col (Row.pick fun c => V (Proc.devRef .tc main_v69) (ix2 b c)) := by
  unfold opsTop1
  after_reads_at
  exact Row.argmax_at _ _ _ b

set_option maxHeartbeats 2000000 in
/-- The first greatest probability's column. -/
theorem last1_at (b : Fin 8192) :
    StableHlo.after opsLast1 V (Proc.devRef .tc main_v87) (ix1 b)
      = Row.col (Row.pick fun c => V (Proc.devRef .tc main_v69) (ix2 b c)) := by
  unfold opsLast1
  after_reads_at
  exact Row.argmax_at _ _ _ b

end Cert.ReferenceIdeal.Line

end
-- ==== Proof.RefSoft1.lean ====
/-
  The reference's first softmax, read at a row and a column.
-/
module

public import proofs.«01_k».proof.Proof.Argmax
public import proofs.«01_k».proof.Proof.Words
public import proofs.«01_k».proof.Proof.Real
public import proofs.«01_k».proof.Proof.Scatter
public import proofs.«01_k».proof.Proof.RefLine
public import Idealize.ShloMosaic.Lib.Routing.OpsOne
public import Idealize.ShloMosaic.Lib.StableHlo.ReadAt
public import Idealize.ShloMosaic.Lib.Pointwise

@[expose] public section

set_option maxRecDepth 16384

noncomputable section

namespace Cert.ReferenceIdeal.Line

open Idealize.ShloMosaic Idealize.ShloMosaic.TcCoe Idealize.SL.Sem Cert.ReferenceIdeal Cert.ReferenceIdeal.Gen

variable (V : Valuation τ sig (Elt Ideal))

set_option maxHeartbeats 2000000 in
/-- Step 1's softmax. -/
theorem soft1_at (b : Fin 8192) (c : Fin 154) :
    StableHlo.after opsSoft1 V (Proc.devRef .tc main_v65) (ix2 b c)
      = Row.soft (fun c => V (Proc.devRef .tc main_v54) (ix2 b c)) c := by
  unfold opsSoft1
  after_reads_at
  rw [Row.neg_inf]
  rfl

end Cert.ReferenceIdeal.Line

end
-- ==== Proof.RefSoft2.lean ====
/-
  The reference's second softmax, read at a row and a column.
-/
module

public import proofs.«01_k».proof.Proof.Argmax
public import proofs.«01_k».proof.Proof.Words
public import proofs.«01_k».proof.Proof.Real
public import proofs.«01_k».proof.Proof.Scatter
public import proofs.«01_k».proof.Proof.RefLine
public import Idealize.ShloMosaic.Lib.Routing.OpsOne
public import Idealize.ShloMosaic.Lib.StableHlo.ReadAt
public import Idealize.ShloMosaic.Lib.Pointwise

@[expose] public section

set_option maxRecDepth 16384

noncomputable section

namespace Cert.ReferenceIdeal.Line

open Idealize.ShloMosaic Idealize.ShloMosaic.TcCoe Idealize.SL.Sem Cert.ReferenceIdeal Cert.ReferenceIdeal.Gen

variable (V : Valuation τ sig (Elt Ideal))

set_option maxHeartbeats 2000000 in
/-- Step 2's softmax. -/
theorem soft2_at (b : Fin 8192) (c : Fin 154) :
    StableHlo.after (opsShift2 ++ opsSoft2) V (Proc.devRef .tc main_v153) (ix2 b c)
      = Row.soft (fun c => V (Proc.devRef .tc main_v142) (ix2 b c)) c := by
  unfold opsShift2 opsSoft2
  after_reads_at
  rw [Row.neg_inf]
  rfl

end Cert.ReferenceIdeal.Line

end
-- ==== Proof.RefFirst.lean ====
/-
  The reference's first step, from the launch contents to its pick and the mask it leaves.
-/
module

public import proofs.«01_k».proof.Proof.RefKeeps
public import proofs.«01_k».proof.Proof.RefCell
public import proofs.«01_k».proof.Proof.RefMask
public import proofs.«01_k».proof.Proof.RefPick
public import proofs.«01_k».proof.Proof.RefArg
public import proofs.«01_k».proof.Proof.RefSoft1
public import proofs.«01_k».proof.Proof.RefSoft2

@[expose] public section

set_option maxRecDepth 16384

noncomputable section

namespace Cert.ReferenceIdeal.Line

open Idealize.ShloMosaic Idealize.ShloMosaic.TcCoe Idealize.SL.Sem Cert.ReferenceIdeal Cert.ReferenceIdeal.Gen

/-- Row `b`'s inputs, off a valuation's argument buffers. -/
def rowOf (V : Valuation τ sig (Elt Ideal)) (b : Fin 8192) : Row.Inp :=
  Row.inp (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) b

/-- What the first step leaves, over the inputs of `V`: the arguments, the state, the probabilities, the cleared mask, the pick. -/
structure First (V W : Valuation τ sig (Elt Ideal)) : Prop where
  args : ∀ r ∈ argRefs, W (Proc.devRef .tc r) = V (Proc.devRef .tc r)
  state : ∀ b j, W (Proc.devRef .tc main_v38) (ix2 b j) = (rowOf V b).h1 j
  prob : ∀ b c, W (Proc.devRef .tc main_v69) (ix2 b c) = Row.hot (rowOf V b).i1 c
  mask : ∀ b c, ∃ m : BitVec 32, (m ≠ 0#32 ↔ Row.mask0 (rowOf V b).w c)
    ∧ W (Proc.devRef .tc main_v86) (ix2 b c) = if c = (rowOf V b).i1 then 0#32 else m
  stop : ∀ b, W (Proc.devRef .tc main_v87) (ix1 b) = Row.col (rowOf V b).i1

set_option maxHeartbeats 4000000 in
/-- The first step, stage by stage. -/
theorem first_step (V0 : Valuation τ sig (Elt Ideal))
    (hx : ∀ b c, V0 (Proc.devRef .tc main_arg1) (ix2 b c) = 0#32 ∨ V0 (Proc.devRef .tc main_arg1) (ix2 b c) = 1#32)
    (hh : ∀ b, (rowOf V0 b).RealHead) :
    First V0 (StableHlo.after opsLast1 (StableHlo.after opsClear1 (StableHlo.after opsWrap1 (StableHlo.after opsTop1 (StableHlo.after opsProb1 (StableHlo.after opsPick1 (StableHlo.after opsSoft1 (StableHlo.after opsLogit1 (StableHlo.after opsMask1 (StableHlo.after opsFlag1 (StableHlo.after opsScore1 (StableHlo.after opsCell1 V0)))))))))))) := by
  generalize e1 : StableHlo.after opsCell1 V0 = V1
  generalize e2 : StableHlo.after opsScore1 V1 = V2
  generalize e3 : StableHlo.after opsFlag1 V2 = V3
  generalize e4 : StableHlo.after opsMask1 V3 = V4
  generalize e5 : StableHlo.after opsLogit1 V4 = V5
  generalize e6 : StableHlo.after opsSoft1 V5 = V6
  generalize e7 : StableHlo.after opsPick1 V6 = V7
  generalize e8 : StableHlo.after opsProb1 V7 = V8
  generalize e9 : StableHlo.after opsTop1 V8 = V9
  generalize e10 : StableHlo.after opsWrap1 V9 = V10
  generalize e11 : StableHlo.after opsClear1 V10 = V11
  generalize e12 : StableHlo.after opsLast1 V11 = V12
  replace e1 := e1.symm
  replace e2 := e2.symm
  replace e3 := e3.symm
  replace e4 := e4.symm
  replace e5 := e5.symm
  replace e6 := e6.symm
  replace e7 := e7.symm
  replace e8 := e8.symm
  replace e9 := e9.symm
  replace e10 := e10.symm
  replace e11 := e11.symm
  replace e12 := e12.symm
  have A1 : ∀ r ∈ argRefs, V1 (Proc.devRef .tc r) = V0 (Proc.devRef .tc r) := fun r hr => by
    rw [e1, keepCell1 ((by decide : ∀ r ∈ argRefs, r ∉ wrCell1) r hr)]
  have A2 : ∀ r ∈ argRefs, V2 (Proc.devRef .tc r) = V0 (Proc.devRef .tc r) := fun r hr => by
    rw [e2, keepScore1 ((by decide : ∀ r ∈ argRefs, r ∉ wrScore1) r hr), A1 r hr]
  have A3 : ∀ r ∈ argRefs, V3 (Proc.devRef .tc r) = V0 (Proc.devRef .tc r) := fun r hr => by
    rw [e3, keepFlag1 ((by decide : ∀ r ∈ argRefs, r ∉ wrFlag1) r hr), A2 r hr]
  have A4 : ∀ r ∈ argRefs, V4 (Proc.devRef .tc r) = V0 (Proc.devRef .tc r) := fun r hr => by
    rw [e4, keepMask1 ((by decide : ∀ r ∈ argRefs, r ∉ wrMask1) r hr), A3 r hr]
  have A5 : ∀ r ∈ argRefs, V5 (Proc.devRef .tc r) = V0 (Proc.devRef .tc r) := fun r hr => by
    rw [e5, keepLogit1 ((by decide : ∀ r ∈ argRefs, r ∉ wrLogit1) r hr), A4 r hr]
  have A6 : ∀ r ∈ argRefs, V6 (Proc.devRef .tc r) = V0 (Proc.devRef .tc r) := fun r hr => by
    rw [e6, keepSoft1 ((by decide : ∀ r ∈ argRefs, r ∉ wrSoft1) r hr), A5 r hr]
  have A7 : ∀ r ∈ argRefs, V7 (Proc.devRef .tc r) = V0 (Proc.devRef .tc r) := fun r hr => by
    rw [e7, keepPick1 ((by decide : ∀ r ∈ argRefs, r ∉ wrPick1) r hr), A6 r hr]
  have A8 : ∀ r ∈ argRefs, V8 (Proc.devRef .tc r) = V0 (Proc.devRef .tc r) := fun r hr => by
    rw [e8, keepProb1 ((by decide : ∀ r ∈ argRefs, r ∉ wrProb1) r hr), A7 r hr]
  have A9 : ∀ r ∈ argRefs, V9 (Proc.devRef .tc r) = V0 (Proc.devRef .tc r) := fun r hr => by
    rw [e9, keepTop1 ((by decide : ∀ r ∈ argRefs, r ∉ wrTop1) r hr), A8 r hr]
  have A10 : ∀ r ∈ argRefs, V10 (Proc.devRef .tc r) = V0 (Proc.devRef .tc r) := fun r hr => by
    rw [e10, keepWrap1 ((by decide : ∀ r ∈ argRefs, r ∉ wrWrap1) r hr), A9 r hr]
  have A11 : ∀ r ∈ argRefs, V11 (Proc.devRef .tc r) = V0 (Proc.devRef .tc r) := fun r hr => by
    rw [e11, keepClear1 ((by decide : ∀ r ∈ argRefs, r ∉ wrClear1) r hr), A10 r hr]
  have A12 : ∀ r ∈ argRefs, V12 (Proc.devRef .tc r) = V0 (Proc.devRef .tc r) := fun r hr => by
    rw [e12, keepLast1 ((by decide : ∀ r ∈ argRefs, r ∉ wrLast1) r hr), A11 r hr]
  have f1 : ∀ b j, V1 (Proc.devRef .tc main_v38) (ix2 b j) = (rowOf V0 b).h1 j := fun b j => by
    rw [e1, cell1_at]
    rfl
  have f2 : ∀ b c, V2 (Proc.devRef .tc main_v43) (ix2 b c) = (rowOf V0 b).o1 c := fun b c => by
    rw [e2, score1_at, A1 main_arg6 (by decide), A1 main_arg7 (by decide), funext (f1 b)]
    rfl
  have f3 : ∀ b, V3 (Proc.devRef .tc main_v49) (ix1 b) = if Finset.univ.fold IntOp.addi 0#32 (fun c => V0 (Proc.devRef .tc main_arg1) (ix2 b c)) = 0#32
      then 1#32 else V0 (Proc.devRef .tc main_arg1) (ix2 b 0) := fun b => by
    rw [e3, flag1_at, A2 main_arg1 (by decide)]
  have p3 : V3 (Proc.devRef .tc main_c_7) ix0 = 0#32 := by
    rw [e3, flag1_place]
  have f4 : ∀ b c, V4 (Proc.devRef .tc main_v51) (ix2 b c) ≠ 0#32 ↔ Row.mask0 (rowOf V0 b).w c := fun b c => by
    rw [e4, mask1_at V3 p3, f3, A3 main_arg1 (by decide)]
    exact Row.mask0_words (hx b) c
  have c43 : V4 (Proc.devRef .tc main_v43) = V2 (Proc.devRef .tc main_v43) := by
    rw [e4, keepMask1 (by decide), e3, keepFlag1 (by decide)]
  have f5 : ∀ b c, V5 (Proc.devRef .tc main_v54) (ix2 b c) = (rowOf V0 b).l1 c := fun b c => by
    rw [e5, logit1_at V4 b _ (f4 b), c43, funext (f2 b)]
    rfl
  have f6 : ∀ b c, V6 (Proc.devRef .tc main_v65) (ix2 b c) = Row.soft (rowOf V0 b).l1 c := fun b c => by
    rw [e6, soft1_at, funext (f5 b)]
  have c54 : V6 (Proc.devRef .tc main_v54) = V5 (Proc.devRef .tc main_v54) := by
    rw [e6, keepSoft1 (by decide)]
  have f7 : ∀ b, V7 (Proc.devRef .tc main_v66) (ix1 b) = Row.col (rowOf V0 b).i1 := fun b => by
    rw [e7, pick1_at, c54, funext (f5 b)]
    rfl
  have c65 : V7 (Proc.devRef .tc main_v65) = V6 (Proc.devRef .tc main_v65) := by
    rw [e7, keepPick1 (by decide)]
  have f8 : ∀ b c, V8 (Proc.devRef .tc main_v69) (ix2 b c) = Row.hot (rowOf V0 b).i1 c := fun b c => by
    rw [e8]
    refine prob1_at V7 (f7 b) (fun c => ?_) c
    rw [c65, f6]
    exact Row.Inp.isReal_soft1 (hh b) c
  have f9 : ∀ b, V9 (Proc.devRef .tc main_v70) (ix1 b) = Row.col (rowOf V0 b).i1 := fun b => by
    rw [e9, top1_at, funext (f8 b), Row.pick_hot]
  have f10 : ∀ b, V10 (Proc.devRef .tc main_v82) (ix2 b 0) = BitVec.ofNat 32 b.val := fun b => by
    rw [e10, wrap1_row]
  have g10 : ∀ b, V10 (Proc.devRef .tc main_v83) (ix2 b 0) = Row.col (rowOf V0 b).i1 := fun b => by
    rw [e10, wrap1_col V9 (f9 b)]
  have c51 : V10 (Proc.devRef .tc main_v51) = V4 (Proc.devRef .tc main_v51) := by
    rw [e10, keepWrap1 (by decide), e9, keepTop1 (by decide), e8, keepProb1 (by decide), e7, keepPick1 (by decide), e6, keepSoft1 (by decide), e5, keepLogit1 (by decide)]
  have f11 : ∀ b c, V11 (Proc.devRef .tc main_v86) (ix2 b c) = if c = (rowOf V0 b).i1 then 0#32 else V4 (Proc.devRef .tc main_v51) (ix2 b c) := fun b c => by
    rw [e11, clear1_at V10 f10 (g10 b), c51]
  have c69 : V11 (Proc.devRef .tc main_v69) = V8 (Proc.devRef .tc main_v69) := by
    rw [e11, keepClear1 (by decide), e10, keepWrap1 (by decide), e9, keepTop1 (by decide)]
  have f12 : ∀ b, V12 (Proc.devRef .tc main_v87) (ix1 b) = Row.col (rowOf V0 b).i1 := fun b => by
    rw [e12, last1_at, c69, funext (f8 b), Row.pick_hot]
  have d38 : V12 (Proc.devRef .tc main_v38) = V1 (Proc.devRef .tc main_v38) := by
    rw [e12, keepLast1 (by decide), e11, keepClear1 (by decide), e10, keepWrap1 (by decide), e9, keepTop1 (by decide), e8, keepProb1 (by decide), e7, keepPick1 (by decide), e6, keepSoft1 (by decide), e5, keepLogit1 (by decide), e4, keepMask1 (by decide), e3, keepFlag1 (by decide), e2, keepScore1 (by decide)]
  have d69 : V12 (Proc.devRef .tc main_v69) = V11 (Proc.devRef .tc main_v69) := by
    rw [e12, keepLast1 (by decide)]
  have d86 : V12 (Proc.devRef .tc main_v86) = V11 (Proc.devRef .tc main_v86) := by
    rw [e12, keepLast1 (by decide)]
  exact ⟨A12, fun b j => (congrFun d38 _).trans (f1 b j), fun b c => (congrFun (d69.trans c69) _).trans (f8 b c),
    fun b c => ⟨_, f4 b c, (congrFun d86 _).trans (f11 b c)⟩, f12⟩

end Cert.ReferenceIdeal.Line

end
-- ==== Proof.RefValue.lean ====
/-
  The reference's second step and its result.
-/
module

public import proofs.«01_k».proof.Proof.RefFirst
public import proofs.«01_k».proof.Proof.RefCell
public import proofs.«01_k».proof.Proof.RefMask
public import proofs.«01_k».proof.Proof.RefPick
public import proofs.«01_k».proof.Proof.RefArg
public import proofs.«01_k».proof.Proof.RefSoft1
public import proofs.«01_k».proof.Proof.RefSoft2

@[expose] public section

set_option maxRecDepth 16384

noncomputable section

namespace Cert.ReferenceIdeal.Line

open Idealize.ShloMosaic Idealize.ShloMosaic.TcCoe Idealize.SL.Sem Cert.ReferenceIdeal Cert.ReferenceIdeal.Gen

set_option maxHeartbeats 4000000 in
/-- The second step, stage by stage, from what the first leaves. -/
theorem second_step (V V0 : Valuation τ sig (Elt Ideal)) (hV : First V V0) (hh : ∀ b, (rowOf V b).RealHead) (b : Fin 8192) (s : Fin 2) (c : Fin 154) :
    (StableHlo.after opsStack (StableHlo.after opsTail (StableHlo.after opsProb2 (StableHlo.after opsPick2 (StableHlo.after opsSoft2 (StableHlo.after opsShift2 (StableHlo.after opsLogit2 (StableHlo.after opsMask2 (StableHlo.after opsScore2 (StableHlo.after opsCell2 (StableHlo.after opsGates2 (StableHlo.after opsNext V0)))))))))))) (Proc.devRef .tc main_v180) (ix3 b s c)
      = Row.hot (if s.val = 0 then (rowOf V b).i1 else (rowOf V b).i2) c := by
  generalize e1 : StableHlo.after opsNext V0 = V1
  generalize e2 : StableHlo.after opsGates2 V1 = V2
  generalize e3 : StableHlo.after opsCell2 V2 = V3
  generalize e4 : StableHlo.after opsScore2 V3 = V4
  generalize e5 : StableHlo.after opsMask2 V4 = V5
  generalize e6 : StableHlo.after opsLogit2 V5 = V6
  generalize e7 : StableHlo.after opsShift2 V6 = V7
  generalize e8 : StableHlo.after opsSoft2 V7 = V8
  generalize e9 : StableHlo.after opsPick2 V8 = V9
  generalize e10 : StableHlo.after opsProb2 V9 = V10
  generalize e11 : StableHlo.after opsTail V10 = V11
  generalize e12 : StableHlo.after opsStack V11 = V12
  replace e1 := e1.symm
  replace e2 := e2.symm
  replace e3 := e3.symm
  replace e4 := e4.symm
  replace e5 := e5.symm
  replace e6 := e6.symm
  replace e7 := e7.symm
  replace e8 := e8.symm
  replace e9 := e9.symm
  replace e10 := e10.symm
  replace e11 := e11.symm
  replace e12 := e12.symm
  have A0 := hV.args
  have A1 : ∀ r ∈ argRefs, V1 (Proc.devRef .tc r) = V (Proc.devRef .tc r) := fun r hr => by
    rw [e1, keepNext ((by decide : ∀ r ∈ argRefs, r ∉ wrNext) r hr), A0 r hr]
  have A2 : ∀ r ∈ argRefs, V2 (Proc.devRef .tc r) = V (Proc.devRef .tc r) := fun r hr => by
    rw [e2, keepGates2 ((by decide : ∀ r ∈ argRefs, r ∉ wrGates2) r hr), A1 r hr]
  have A3 : ∀ r ∈ argRefs, V3 (Proc.devRef .tc r) = V (Proc.devRef .tc r) := fun r hr => by
    rw [e3, keepCell2 ((by decide : ∀ r ∈ argRefs, r ∉ wrCell2) r hr), A2 r hr]
  have f1 : ∀ b k, V1 (Proc.devRef .tc main_v89) (ix2 b k) = (rowOf V b).y k := fun b k => by
    rw [e1, next_at, A0 main_arg0 (by decide), A0 main_arg8 (by decide), funext (hV.prob b)]
    rfl
  have c38 : V1 (Proc.devRef .tc main_v38) = V0 (Proc.devRef .tc main_v38) := by
    rw [e1, keepNext (by decide)]
  have f3 : ∀ b j, V3 (Proc.devRef .tc main_v127) (ix2 b j) = (rowOf V b).h2 j := fun b j => by
    rw [e3, e2, ← StableHlo.after_append, cell2_at, A1 main_arg2 (by decide), A1 main_arg3 (by decide), A1 main_arg4 (by decide), A1 main_arg5 (by decide), c38, funext (f1 b), funext (hV.state b)]
    rfl
  have f4 : ∀ b c, V4 (Proc.devRef .tc main_v132) (ix2 b c) = (rowOf V b).o2 c := fun b c => by
    rw [e4, score2_at, A3 main_arg6 (by decide), A3 main_arg7 (by decide), funext (f3 b)]
    rfl
  have c86 : V4 (Proc.devRef .tc main_v86) = V0 (Proc.devRef .tc main_v86) := by
    rw [e4, keepScore2 (by decide), e3, keepCell2 (by decide), e2, keepGates2 (by decide), e1, keepNext (by decide)]
  have c87 : V4 (Proc.devRef .tc main_v87) = V0 (Proc.devRef .tc main_v87) := by
    rw [e4, keepScore2 (by decide), e3, keepCell2 (by decide), e2, keepGates2 (by decide), e1, keepNext (by decide)]
  have f5 : ∀ b c, V5 (Proc.devRef .tc main_v139) (ix2 b c) ≠ 0#32 ↔ Row.mask1 (rowOf V b).w (rowOf V b).i1 c := fun b c => by
    obtain ⟨m, hm, hc⟩ := hV.mask b c
    rw [e5, mask2_at V4 (i := (rowOf V b).i1) ((congrFun c87 _).trans (hV.stop b)), c86, hc]
    exact Row.mask1_words hm
  have c132 : V5 (Proc.devRef .tc main_v132) = V4 (Proc.devRef .tc main_v132) := by
    rw [e5, keepMask2 (by decide)]
  have f6 : ∀ b c, V6 (Proc.devRef .tc main_v142) (ix2 b c) = (rowOf V b).l2 c := fun b c => by
    rw [e6, logit2_at V5 b _ (f5 b), c132, funext (f4 b)]
    rfl
  have f8 : ∀ b c, V8 (Proc.devRef .tc main_v153) (ix2 b c) = Row.soft (rowOf V b).l2 c := fun b c => by
    rw [e8, e7, ← StableHlo.after_append, soft2_at, funext (f6 b)]
  have c142 : V8 (Proc.devRef .tc main_v142) = V6 (Proc.devRef .tc main_v142) := by
    rw [e8, keepSoft2 (by decide), e7, keepShift2 (by decide)]
  have f9 : ∀ b, V9 (Proc.devRef .tc main_v154) (ix1 b) = Row.col (rowOf V b).i2 := fun b => by
    rw [e9, pick2_at, c142, funext (f6 b)]
    rfl
  have c153 : V9 (Proc.devRef .tc main_v153) = V8 (Proc.devRef .tc main_v153) := by
    rw [e9, keepPick2 (by decide)]
  have f10 : ∀ b c, V10 (Proc.devRef .tc main_v157) (ix2 b c) = Row.hot (rowOf V b).i2 c := fun b c => by
    rw [e10]
    refine prob2_at V9 (f9 b) (fun c => ?_) c
    rw [c153, f8]
    exact Row.Inp.isReal_soft2 (hh b) c
  have c157 : V11 (Proc.devRef .tc main_v157) = V10 (Proc.devRef .tc main_v157) := by
    rw [e11, keepTail (by decide)]
  have c69 : V11 (Proc.devRef .tc main_v69) = V0 (Proc.devRef .tc main_v69) := by
    rw [e11, keepTail (by decide), e10, keepProb2 (by decide), e9, keepPick2 (by decide), e8, keepSoft2 (by decide), e7, keepShift2 (by decide), e6, keepLogit2 (by decide), e5, keepMask2 (by decide), e4, keepScore2 (by decide), e3, keepCell2 (by decide), e2, keepGates2 (by decide), e1, keepNext (by decide)]
  rw [e12, stack_at, c69, c157, hV.prob, f10]
  by_cases h : s.val = 0
  · rw [if_pos h, if_pos (by omega)]
  · rw [if_neg h, if_neg (by omega)]

/-- **The reference's result** over its arguments, where the mask words are 0 or 1 and the head's weights are real. -/
theorem line_result (V : Valuation τ sig (Elt Ideal))
    (hx : ∀ b c, V (Proc.devRef .tc main_arg1) (ix2 b c) = 0#32 ∨ V (Proc.devRef .tc main_arg1) (ix2 b c) = 1#32)
    (hh : ∀ b, (rowOf V b).RealHead) :
    StableHlo.after line V (Proc.devRef .tc main_v180) = Row.result (rowOf V) := by
  funext i
  obtain ⟨b, s, c, rfl⟩ : ∃ (b : Fin 8192) (s : Fin 2) (c : Fin 154), i = ix3 b s c := ⟨_, _, _, eq_ix3 i⟩
  simp only [line, StableHlo.after_append]
  exact second_step V _ (first_step V hx hh) hh b s c

end Cert.ReferenceIdeal.Line

end
-- ==== Proof.Equal.lean ====
/-
  The value claim: from equal arguments, drawn as the precondition says, the kernel and the reference leave the same result.
-/
module

public import proofs.«01_k».proof.Defs
public import proofs.«01_k».proof.Proof.Drawn
public import proofs.«01_k».proof.Proof.Picks
public import proofs.«01_k».proof.Proof.RefValue
public import proofs.«01_k».proof.Proof.RefFrame

@[expose] public section

noncomputable section

namespace Cert.Equal

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two argument memories agree on every device. -/
def Agree : Prop := ∀ c : Dev KernelIdeal.nD,
    m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)
    ∧ m' ((c.tc : Thread ReferenceIdeal.nD ReferenceIdeal.τ).loc ReferenceIdeal.main_arg5) = m ((c.tc : Thread KernelIdeal.nD KernelIdeal.τ).loc KernelIdeal.main_arg5)
    ∧ m' ((c.tc : Thread ReferenceIdeal.nD ReferenceIdeal.τ).loc ReferenceIdeal.main_arg6) = m ((c.tc : Thread KernelIdeal.nD KernelIdeal.τ).loc KernelIdeal.main_arg6)
    ∧ m' ((c.tc : Thread ReferenceIdeal.nD ReferenceIdeal.τ).loc ReferenceIdeal.main_arg7) = m ((c.tc : Thread KernelIdeal.nD KernelIdeal.τ).loc KernelIdeal.main_arg7)
    ∧ m' ((c.tc : Thread ReferenceIdeal.nD ReferenceIdeal.τ).loc ReferenceIdeal.main_arg8) = m ((c.tc : Thread KernelIdeal.nD KernelIdeal.τ).loc KernelIdeal.main_arg8)

variable {m m'}

/-- Agreeing memories hold the same rows. -/
theorem row_eq (hm : Agree m m') (c : Dev KernelIdeal.nD) :
    ReferenceIdeal.Line.rowOf (StableHlo.launchContents m' c) = KernelIdeal.Picks.rowOf m c := by
  funext b
  have e : ∀ y0 y1 y2 y3 y4 y5 y6 y7 y8, y0 = m ((c.tc : Thread KernelIdeal.nD KernelIdeal.τ).loc KernelIdeal.main_arg0) → y1 = m ((c.tc : Thread KernelIdeal.nD KernelIdeal.τ).loc KernelIdeal.main_arg1) → y2 = m ((c.tc : Thread KernelIdeal.nD KernelIdeal.τ).loc KernelIdeal.main_arg2) → y3 = m ((c.tc : Thread KernelIdeal.nD KernelIdeal.τ).loc KernelIdeal.main_arg3) → y4 = m ((c.tc : Thread KernelIdeal.nD KernelIdeal.τ).loc KernelIdeal.main_arg4) → y5 = m ((c.tc : Thread KernelIdeal.nD KernelIdeal.τ).loc KernelIdeal.main_arg5) → y6 = m ((c.tc : Thread KernelIdeal.nD KernelIdeal.τ).loc KernelIdeal.main_arg6) → y7 = m ((c.tc : Thread KernelIdeal.nD KernelIdeal.τ).loc KernelIdeal.main_arg7) → y8 = m ((c.tc : Thread KernelIdeal.nD KernelIdeal.τ).loc KernelIdeal.main_arg8) →
      Row.inp y0 y1 y2 y3 y4 y5 y6 y7 y8 b = KernelIdeal.Picks.rowOf m c b := by
    intro y0 y1 y2 y3 y4 y5 y6 y7 y8 h0 h1 h2 h3 h4 h5 h6 h7 h8
    subst h0 h1 h2 h3 h4 h5 h6 h7 h8
    rfl
  exact e _ _ _ _ _ _ _ _ _ ((hm c).1) ((hm c).2.1) ((hm c).2.2.1) ((hm c).2.2.2.1) ((hm c).2.2.2.2.1) ((hm c).2.2.2.2.2.1) ((hm c).2.2.2.2.2.2.1) ((hm c).2.2.2.2.2.2.2.1) ((hm c).2.2.2.2.2.2.2.2)

variable [Pre_drawn.Facts]

/-- The reference's mask words are 0 or 1. -/
theorem bits (hp : Pre_KernelIdeal_drawn m) (hm : Agree m m') (c : Dev KernelIdeal.nD) (b : Fin 8192) (k : Fin 154) :
    StableHlo.launchContents m' c (Proc.devRef .tc ReferenceIdeal.main_arg1) (ix2 b k) = 0#32
    ∨ StableHlo.launchContents m' c (Proc.devRef .tc ReferenceIdeal.main_arg1) (ix2 b k) = 1#32 := by
  have h := Pre_drawn.bits _ _ _ _ _ _ _ _ _ (hp c).1 (ix2 b k)
  have e := congrFun ((hm c).2.1) (ix2 b k)
  exact h.imp (fun h => Eq.trans e h) fun h => Eq.trans e h

/-- The head's weights and bias are real in every row's inputs. -/
theorem head (hp : Pre_KernelIdeal_drawn m) (c : Dev KernelIdeal.nD) (b : Fin 8192) : (KernelIdeal.Picks.rowOf m c b).RealHead :=
  ⟨fun n k => Pre_drawn.weights _ _ _ _ _ _ _ _ _ (hp c).2.1 (ix2 n k), fun n => Pre_drawn.bias _ _ _ _ _ _ _ _ _ (hp c).2.2 (ix1 n)⟩

/-- The reference's run leaves the row-by-row specification of the kernel's memory. -/
theorem run_ref (hp : Pre_KernelIdeal_drawn m) (hm : Agree m m') (g : Dev ReferenceIdeal.nD → PrngReg) :
    θ_run (ReferenceIdeal.defs (F := Ideal)) (onTc (τ := ReferenceIdeal.τ) (ReferenceIdeal.main (F := Ideal))) ⟨m', fun _ => 0, g⟩ (fun r => ∀ c : Dev ReferenceIdeal.nD,
      r.2.mem ((c.tc : Thread ReferenceIdeal.nD ReferenceIdeal.τ).loc ReferenceIdeal.main_v180) = Row.result (KernelIdeal.Picks.rowOf m c)) :=
  (θ_run ReferenceIdeal.defs _ _).mono (fun _ h c => by
    refine (h c ReferenceIdeal.main_v180).trans ?_
    rw [ReferenceIdeal.Line.line_result _ (bits hp hm c) (fun b => by rw [row_eq hm c]; exact head hp c b), row_eq hm c])
    (ReferenceIdeal.Line.run m' g)

/-- The value claim. -/
theorem algebraic [KernelIdeal.Facts] [ReferenceIdeal.Facts] : algebraic_KernelIdeal_ReferenceIdeal_pre_drawn := by
  intro m g m' g' hp hm
  refine ⟨fun c => Row.result (KernelIdeal.Picks.rowOf m c), ?_, ?_⟩
  · exact (θ_run KernelIdeal.defs _ _).mono (fun _ h c => ⟨h.1 c, h.2 c⟩) (θ_run_and (KernelIdeal.Picks.run m g) (KernelIdeal.Gen.unchanged m g))
  · exact (θ_run ReferenceIdeal.defs _ _).mono (fun _ h c => ⟨h.1 c, h.2.1 c⟩) (θ_run_and (run_ref hp hm g') (ReferenceIdeal.Line.frame m' g'))

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The frames, the idealization's preservation and the value claim. -/
theorem claim : Cert.Claim := ⟨Cert.Kernel.Gen.facts, Cert.KernelIdeal.Gen.facts, Cert.ReferenceIdeal.Gen.facts, Cert.Pre_drawn.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Line.frame m ρ, fun m ρ _ => Cert.ReferenceIdeal.Line.frame m ρ, trivial,
  @Cert.Equal.algebraic Cert.Pre_drawn.facts Cert.KernelIdeal.Gen.facts Cert.ReferenceIdeal.Gen.facts⟩

end Cert.Proof

end
